-- ==== Defs.lean ====
def Pre_Kernel [hPre_slots_distinct : Cert.Pre_slots_distinct.Facts] (m : (ℓ : Loc Cert.Kernel.nD Cert.Kernel.τ Cert.Kernel.sig) → Buf (Elt Bits) ℓ) : Prop :=
  ∀ c : Dev Cert.Kernel.nD,
    (Cert.Pre_slots_distinct.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_slots_distinct.fn (F := Bits) (m ((c.tc : Thread Cert.Kernel.nD Cert.Kernel.τ).loc Cert.Kernel.main_arg0)) (m ((c.tc : Thread Cert.Kernel.nD Cert.Kernel.τ).loc Cert.Kernel.main_arg1))).2 = (fun _ => 1#1)

def Pre_KernelIdeal [hPre_slots_distinct : Cert.Pre_slots_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct [hPre_slots_distinct : Cert.Pre_slots_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scores_finite [hPre_scores_finite : Cert.Pre_scores_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scores_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_scores_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_scores_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_scores_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scores_finite [hPre_scores_finite : Cert.Pre_scores_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scores_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_scores_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_scores_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_scores_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_slots_distinct : Cert.Pre_slots_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_slots_distinct [hReferenceIdeal : Cert.ReferenceIdeal.Facts] [hPre_slots_distinct : Cert.Pre_slots_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_scores_finite [hKernel2Ideal : Cert.Kernel2Ideal.Facts] [hPre_scores_finite : Cert.Pre_scores_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scores_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_scores_finite [hReference2Ideal : Cert.Reference2Ideal.Facts] [hPre_scores_finite : Cert.Pre_scores_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scores_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "mask" .f32 0xF149F2CA#32 ⊥

def algebraic_Kernel2Ideal_Reference2Ideal_pre_scores_finite [hKernel2Ideal : Cert.Kernel2Ideal.Facts] [hReference2Ideal : Cert.Reference2Ideal.Facts] [hPre_scores_finite : Cert.Pre_scores_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scores_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v46)) (v1 : (c : Dev Cert.Kernel4Ideal.nD) → Buf (Elt Ideal) ((c.tc : Thread Cert.Kernel4Ideal.nD Cert.Kernel4Ideal.τ).loc Cert.Kernel4Ideal.main_v49)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46) = v0 c
          ∧ r.2.mem ((c.tc : Thread Cert.Kernel4Ideal.nD Cert.Kernel4Ideal.τ).loc Cert.Kernel4Ideal.main_v49) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_slots_distinct : Cert.Pre_slots_distinct.Facts) (hPre_scores_finite : Cert.Pre_scores_finite.Facts),
    quiescent_Kernel (hKernel := hKernel) (hPre_slots_distinct := hPre_slots_distinct)
    ∧ quiescent_KernelIdeal (hKernelIdeal := hKernelIdeal) (hPre_slots_distinct := hPre_slots_distinct)
    ∧ quiescent_ReferenceIdeal (hReferenceIdeal := hReferenceIdeal)
    ∧ quiescent_ReferenceIdeal_pre_slots_distinct (hReferenceIdeal := hReferenceIdeal) (hPre_slots_distinct := hPre_slots_distinct)
    ∧ quiescent_Kernel2 (hKernel2 := hKernel2)
    ∧ quiescent_Kernel2Ideal (hKernel2Ideal := hKernel2Ideal)
    ∧ quiescent_Kernel2Ideal_pre_scores_finite (hKernel2Ideal := hKernel2Ideal) (hPre_scores_finite := hPre_scores_finite)
    ∧ quiescent_Reference2Ideal (hReference2Ideal := hReference2Ideal)
    ∧ quiescent_Reference2Ideal_pre_scores_finite (hReference2Ideal := hReference2Ideal) (hPre_scores_finite := hPre_scores_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_slots_distinct := hPre_slots_distinct)
    ∧ preserves_Kernel2_Kernel2Ideal
    ∧ algebraic_Kernel2Ideal_Reference2Ideal_pre_scores_finite (hKernel2Ideal := hKernel2Ideal) (hReference2Ideal := hReference2Ideal) (hPre_scores_finite := hPre_scores_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_scores_finite.lean ====
abbrev S4x8192x16x64 : Shape := ⟨4, ![4, 8192, 16, 64]⟩
abbrev S4x8192x16x32 : Shape := ⟨4, ![4, 8192, 16, 32]⟩
abbrev S4x8192x32 : Shape := ⟨3, ![4, 8192, 32]⟩
abbrev S_ : Shape := ⟨0, ![]⟩

class Facts : Prop where
  bcast_S_S4x8192x16x64 : S_.BroadcastsInDim S4x8192x16x64 (![] : Fin 0 → Fin S4x8192x16x64.rank)
  bcast_S_S4x8192x16x32 : S_.BroadcastsInDim S4x8192x16x32 (![] : Fin 0 → Fin S4x8192x16x32.rank)
  bcast_S_S4x8192x32 : S_.BroadcastsInDim S4x8192x32 (![] : Fin 0 → Fin S4x8192x32.rank)

variable [Facts]

def fn {F : FTy → Type} [FloatOps F] (main_arg0 : FVec F S4x8192x16x64 .f32) (main_arg1 : FVec F S4x8192x16x32 .f32) (main_arg2 : FVec F S4x8192x16x64 .f32) (main_arg3 : FVec F S4x8192x32 .f32) (main_arg4 : FVec F S4x8192x16x64 .f32) : IVec S4x8192x16x64 1 × IVec S4x8192x16x32 1 × IVec S4x8192x16x64 1 × IVec S4x8192x32 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_v3 : FVec F S4x8192x16x32 .f32 := Host.absf main_arg1
  let main_cst_0 : FVec F S_ .f32 := constant S_ .f32 0x7F800000#32
  let main_v4 : FVec F S4x8192x16x32 .f32 := broadcastInDim S4x8192x16x32 ![] bcast_S_S4x8192x16x32 main_cst_0
  let main_v5 : IVec S4x8192x16x32 1 := cmpf .olt main_v3 main_v4
  let main_v6 : FVec F S4x8192x16x64 .f32 := Host.absf main_arg2
  let main_cst_1 : FVec F S_ .f32 := constant S_ .f32 0x7F800000#32
  let main_v7 : FVec F S4x8192x16x64 .f32 := broadcastInDim S4x8192x16x64 ![] bcast_S_S4x8192x16x64 main_cst_1
  let main_v8 : IVec S4x8192x16x64 1 := cmpf .olt main_v6 main_v7
  let main_v9 : FVec F S4x8192x32 .f32 := Host.absf main_arg3
  let main_cst_2 : FVec F S_ .f32 := constant S_ .f32 0x7F800000#32
  let main_v10 : FVec F S4x8192x32 .f32 := broadcastInDim S4x8192x32 ![] bcast_S_S4x8192x32 main_cst_2
  let main_v11 : IVec S4x8192x32 1 := cmpf .olt main_v9 main_v10
  (main_v2, main_v5, main_v8, main_v11)
-- ==== Pre_slots_distinct.lean ====
abbrev S2x32768 : Shape := ⟨2, ![2, 32768]⟩
abbrev S32768x1024 : Shape := ⟨2, ![32768, 1024]⟩
abbrev S65536 : Shape := ⟨1, ![65536]⟩
abbrev S_ : Shape := ⟨0, ![]⟩
abbrev S65535 : Shape := ⟨1, ![65535]⟩

class Facts : Prop where
  shapeCasts_S2x32768_S65536 : S2x32768.ShapeCasts S65536
  bcast_S_S2x32768 : S_.BroadcastsInDim S2x32768 (![] : Fin 0 → Fin S2x32768.rank)
  slices_S65536_S65535_1 : S65536.Slices ![1] S65535
  slices_S65536_S65535_0 : S65536.Slices ![0] S65535

variable [Facts]

def comparator_i32_d0 : BitVec 32 → BitVec 32 → BitVec 1 :=
  fun l r =>
    let v1 := IntOp.cmpi .slt l r
    v1
def fn_sort {F : FTy → Type} [FloatOps F] (arg0 : IVec S65536 32) : IVec S65536 32 :=
  let v0 : IVec S65536 32 := (fun x => Host.sort S65536 0 comparator_i32_d0 x) arg0
  v0

def fn {F : FTy → Type} [FloatOps F] (main_arg0 : IVec S2x32768 32) (main_arg1 : FVec F S32768x1024 .f32) : IVec S2x32768 1 × IVec S65535 1 :=
  let main_v0 : IVec S65536 32 := shapeCast S65536 main_arg0 shapeCasts_S2x32768_S65536
  let main_v1 : IVec S65536 32 := fn_sort (F := F) main_v0
  let main_c : IVec S_ 32 := constantI S_ 32 0#32
  let main_v2 : IVec S2x32768 32 := broadcastInDim S2x32768 ![] bcast_S_S2x32768 main_c
  let main_v3 : IVec S2x32768 1 := cmpi .sge main_arg0 main_v2
  let main_c_0 : IVec S_ 32 := constantI S_ 32 81920#32
  let main_v4 : IVec S2x32768 32 := broadcastInDim S2x32768 ![] bcast_S_S2x32768 main_c_0
  let main_v5 : IVec S2x32768 1 := cmpi .slt main_arg0 main_v4
  let main_v6 : IVec S2x32768 1 := andi main_v3 main_v5
  let main_v7 : IVec S65535 32 := (extractStridedSlice S65535 ![1] · slices_S65536_S65535_1) main_v1
  let main_v8 : IVec S65535 32 := (extractStridedSlice S65535 ![0] · slices_S65536_S65535_0) main_v1
  let main_v9 : IVec S65535 1 := cmpi .sgt main_v7 main_v8
  (main_v6, main_v9)
-- ==== Kernel.lean ====
abbrev S2x32768 : Shape := ⟨2, ![2, 32768]⟩
abbrev S32768x1024 : Shape := ⟨2, ![32768, 1024]⟩
abbrev S_ : Shape := ⟨0, ![]⟩
abbrev S81920x1024 : Shape := ⟨2, ![81920, 1024]⟩
abbrev S2x512 : Shape := ⟨2, ![2, 512]⟩
abbrev S1x1 : Shape := ⟨2, ![1, 1]⟩
abbrev S1x1024 : Shape := ⟨2, ![1, 1024]⟩

abbrev nBuf : Space → Nat
  | .hbm => 4
  | .vmem => 0
  | .smem => 2
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S_, .f32⟩
  | .hbm, ⟨3, _⟩ => ⟨S81920x1024, .f32⟩
  | .local _ .smem, ⟨0, _⟩ => ⟨S2x512, .i32⟩
  | .local _ .smem, ⟨1, _⟩ => ⟨S2x512, .i32⟩
  | _, _ => ⟨S2x32768, .i32⟩

abbrev bufScoped : (cs : CoreSpace) → Fin (nBuf (.core cs)) → Bool
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let v9 : Index := Scalar.indexCast arg6
  ![0, v9.toNat]
def k0_off2 (v10 : BitVec 32) : Fin 2 → Nat :=
  let c0_i32_5 : BitVec 32 := 0#32
  ![v10.toNat, 0]

def k0_chk1 (v10 : BitVec 32) : Prop :=
  (∀ a, (k0_off2 v10) a + S1x1024.size a ≤ S81920x1024.size a)
theorem k0_off2_inb : ∀ (v10 : BitVec 32) (k0_hw1 : k0_chk1 v10), ∀ a, (k0_off2 v10) a + S1x1024.size a ≤ S81920x1024.size a := fun v10 k0_hw1 => k0_hw1

def k0_off3 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v8 : BitVec 32 := Scalar.addi v0 arg6
  let c0_i32_6 : BitVec 32 := 0#32
  ![v8.toNat, 0]
def k0_off4 (k0_t1 : Fin k0_t1_loop.trips) : Fin 2 → Nat :=
  let c1 : Index := 1#32
  let c0_i32 : BitVec 32 := 0#32
  let c1_i32 : BitVec 32 := 1#32
  let arg6 : BitVec 32 := Scf.iv c0_i32 c1_i32 k0_t1
  let v14 : Index := Scalar.indexCast arg6
  ![1, v14.toNat]
def k0_off5 (v15 : BitVec 32) : Fin 2 → Nat :=
  let c0_i32_7 : BitVec 32 := 0#32
  ![v15.toNat, 0]

def k0_chk2 (v15 : BitVec 32) : Prop :=
  (∀ a, (k0_off5 v15) a + S1x1024.size a ≤ S81920x1024.size a)
theorem k0_off5_inb : ∀ (v15 : BitVec 32) (k0_hw2 : k0_chk2 v15), ∀ a, (k0_off5 v15) a + S1x1024.size a ≤ S81920x1024.size a := fun v15 k0_hw2 => k0_hw2

def k0_off6 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg6 : BitVec 32 := Scf.iv c0_i32 c1_i32 k0_t1
  let v13 : BitVec 32 := Scalar.addi v0 arg6
  let c0_i32_8 : BitVec 32 := 0#32
  ![v13.toNat, 0]
def k0_cond1 (i : grid0.Coords) : BitVec 1 :=
  let arg0 : BitVec 32 := BitVec.ofNat 32 (i 0).val
  let c0_i32_2 : BitVec 32 := 0#32
  let v2 : BitVec 1 := Scalar.cmpi .sgt arg0 c0_i32_2
  let v3 : BitVec 32 := Scalar.extui v2
  let c0_i32_3 : BitVec 32 := 0#32
  let v4 : BitVec 1 := Scalar.cmpi .ne v3 c0_i32_3
  v4

@[reducible] def k0_t2_loop : Scf.Loop 32 :=
  let c0_i32_5 : BitVec 32 := 0#32
  let c512_i32_6 : BitVec 32 := 512#32
  let v8 : BitVec 32 := Scalar.addi c0_i32_5 c512_i32_6
  let c1_i32_7 : BitVec 32 := 1#32
  ⟨c0_i32_5, v8, c1_i32_7⟩
def k0_cond2 (i : grid0.Coords) : BitVec 1 :=
  let arg0 : BitVec 32 := BitVec.ofNat 32 (i 0).val
  let c63_i32 : BitVec 32 := 63#32
  let v5 : BitVec 1 := Scalar.cmpi .eq arg0 c63_i32
  let v6 : BitVec 32 := Scalar.extui v5
  let c0_i32_4 : BitVec 32 := 0#32
  let v7 : BitVec 1 := Scalar.cmpi .ne v6 c0_i32_4
  v7

@[reducible] def k0_t3_loop : Scf.Loop 32 :=
  let c0_i32_5 : BitVec 32 := 0#32
  let c512_i32_6 : BitVec 32 := 512#32
  let v8 : BitVec 32 := Scalar.addi c0_i32_5 c512_i32_6
  let c1_i32_7 : BitVec 32 := 1#32
  ⟨c0_i32_5, v8, c1_i32_7⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .smem S2x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S2x32768 : Shape := ⟨2, ![2, 32768]⟩
abbrev S32768x1024 : Shape := ⟨2, ![32768, 1024]⟩
abbrev S32768x2 : Shape := ⟨2, ![32768, 2]⟩
abbrev S65536 : Shape := ⟨1, ![65536]⟩
abbrev S32768 : Shape := ⟨1, ![32768]⟩
abbrev S_ : Shape := ⟨0, ![]⟩
abbrev S81920x1024 : Shape := ⟨2, ![81920, 1024]⟩
abbrev S65536x1 : Shape := ⟨2, ![65536, 1]⟩
abbrev S65536x1024 : Shape := ⟨2, ![65536, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S32768x2, .i32⟩
  | .hbm, ⟨3, _⟩ => ⟨S65536, .i32⟩
  | .hbm, ⟨4, _⟩ => ⟨S32768, .i32⟩
  | .hbm, ⟨5, _⟩ => ⟨S32768x2, .i32⟩
  | .hbm, ⟨6, _⟩ => ⟨S65536, .i32⟩
  | .hbm, ⟨7, _⟩ => ⟨S_, .f32⟩
  | .hbm, ⟨8, _⟩ => ⟨S81920x1024, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1024, .f32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S81920x1024, .f32⟩
  | _, _ => ⟨S2x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S4x8192x16x64 : Shape := ⟨4, ![4, 8192, 16, 64]⟩
abbrev S4x8192x16x32 : Shape := ⟨4, ![4, 8192, 16, 32]⟩
abbrev S4x8192x32 : Shape := ⟨3, ![4, 8192, 32]⟩
abbrev S4x8192x16x96 : Shape := ⟨4, ![4, 8192, 16, 96]⟩
abbrev S_ : Shape := ⟨0, ![]⟩
abbrev S4x8192x16x128 : Shape := ⟨4, ![4, 8192, 16, 128]⟩
abbrev S4x8192x1x32 : Shape := ⟨4, ![4, 8192, 1, 32]⟩
abbrev S4x8192x16x16 : Shape := ⟨4, ![4, 8192, 16, 16]⟩
abbrev S4x8192x16x80 : Shape := ⟨4, ![4, 8192, 16, 80]⟩
abbrev S4x16x128x8192 : Shape := ⟨4, ![4, 16, 128, 8192]⟩
abbrev S4x16x8192x128 : Shape := ⟨4, ![4, 16, 8192, 128]⟩
abbrev S4x16x80x8192 : Shape := ⟨4, ![4, 16, 80, 8192]⟩
abbrev S4x1024x8192 : Shape := ⟨3, ![4, 1024, 8192]⟩
abbrev S1x1x128x8192 : Shape := ⟨4, ![1, 1, 128, 8192]⟩
abbrev S1x1x8192x128 : Shape := ⟨4, ![1, 1, 8192, 128]⟩
abbrev S1x1x80x8192 : Shape := ⟨4, ![1, 1, 80, 8192]⟩
abbrev S1x64x8192 : Shape := ⟨3, ![1, 64, 8192]⟩
abbrev S1x1x128x512 : Shape := ⟨4, ![1, 1, 128, 512]⟩
abbrev S128x512 : Shape := ⟨2, ![128, 512]⟩
abbrev S1x512 : Shape := ⟨2, ![1, 512]⟩
abbrev S80x512 : Shape := ⟨2, ![80, 512]⟩
abbrev S1x1x512x128 : Shape := ⟨4, ![1, 1, 512, 128]⟩
abbrev S512x128 : Shape := ⟨2, ![512, 128]⟩
abbrev S512x512 : Shape := ⟨2, ![512, 512]⟩
abbrev S512 : Shape := ⟨1, ![512]⟩
abbrev S1x1x80x512 : Shape := ⟨4, ![1, 1, 80, 512]⟩
abbrev S64x512 : Shape := ⟨2, ![64, 512]⟩
abbrev S1x64x512 : Shape := ⟨3, ![1, 64, 512]⟩
abbrev S4x8192x1024 : Shape := ⟨3, ![4, 8192, 1024]⟩

abbrev nBuf : Space → Nat
  | .hbm => 35
  | .vmem => 8
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x32, .f32⟩
  | .hbm, ⟨2, _⟩ => ⟨S4x8192x16x64, .f32⟩
  | .hbm, ⟨3, _⟩ => ⟨S4x8192x32, .f32⟩
  | .hbm, ⟨4, _⟩ => ⟨S4x8192x16x64, .f32⟩
  | .hbm, ⟨5, _⟩ => ⟨S4x8192x16x96, .f32⟩
  | .hbm, ⟨6, _⟩ => ⟨S_, .f32⟩
  | .hbm, ⟨7, _⟩ => ⟨S4x8192x16x96, .f32⟩
  | .hbm, ⟨8, _⟩ => ⟨S4x8192x16x96, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x16x96, .f32⟩
  | .hbm, ⟨14, _⟩ => ⟨S4x8192x16x96, .f32⟩
  | .hbm, ⟨15, _⟩ => ⟨S_, .f32⟩
  | .hbm, ⟨16, _⟩ => ⟨S4x8192x16x32, .f32⟩
  | .hbm, ⟨17, _⟩ => ⟨S4x8192x16x128, .f32⟩
  | .hbm, ⟨18, _⟩ => ⟨S4x8192x1x32, .f32⟩
  | .hbm, ⟨19, _⟩ => ⟨S4x8192x16x32, .f32⟩
  | .hbm, ⟨20, _⟩ => ⟨S_, .f32⟩
  | .hbm, ⟨21, _⟩ => ⟨S4x8192x16x32, .f32⟩
  | .hbm, ⟨22, _⟩ => ⟨S4x8192x16x128, .f32⟩
  | .hbm, ⟨23, _⟩ => ⟨S_, .f32⟩
  | .hbm, ⟨24, _⟩ => ⟨S4x8192x16x16, .f32⟩
  | .hbm, ⟨25, _⟩ => ⟨S4x8192x16x80, .f32⟩
  | .hbm, ⟨26, _⟩ => ⟨S4x16x128x8192, .f32⟩
  | .hbm, ⟨27, _⟩ => ⟨S4x16x128x8192, .bf16⟩
  | .hbm, ⟨28, _⟩ => ⟨S4x16x8192x128, .f32⟩
  | .hbm, ⟨29, _⟩ => ⟨S4x16x8192x128, .bf16⟩
  | .hbm, ⟨30, _⟩ => ⟨S4x16x80x8192, .f32⟩
  | .hbm, ⟨31, _⟩ => ⟨S4x16x80x8192, .bf16⟩
  | .hbm, ⟨32, _⟩ => ⟨S4x1024x8192, .bf16⟩
  | .hbm, ⟨33, _⟩ => ⟨S4x1024x8192, .f32⟩
  | .hbm, ⟨34, _⟩ => ⟨S4x8192x1024, .f32⟩
  | .local _ .vmem, ⟨0, _⟩ => ⟨S1x1x128x8192, .bf16⟩
  | .local _ .vmem, ⟨1, _⟩ => ⟨S1x1x128x8192, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x80x8192, .bf16⟩
  | .local _ .vmem, ⟨5, _⟩ => ⟨S1x1x80x8192, .bf16⟩
  | .local _ .vmem, ⟨6, _⟩ => ⟨S1x64x8192, .bf16⟩
  | .local _ .vmem, ⟨7, _⟩ => ⟨S1x64x8192, .bf16⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (k0_t1 : Fin k0_t1_loop.trips) : Fin 4 → Nat :=
  let c0 : Index := 0#32
  let c0_1 : Index := 0#32
  let c0_2 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v3 : Index := Scalar.indexCast v2
  ![0, 0, 0, v3.toNat]
@[reducible] def k0_t2_loop (k0_t1 : Fin k0_t1_loop.trips) : Scf.Loop 32 :=
  let c0_i32_4 : BitVec 32 := 0#32
  let c0_i32 : BitVec 32 := 0#32
  let c1_i32 : BitVec 32 := 1#32
  let arg6 : BitVec 32 := Scf.iv c0_i32 c1_i32 k0_t1
  let v8 : BitVec 32 := Scalar.subi arg6 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let c1_i32_6 : BitVec 32 := 1#32
  ⟨c0_i32_4, v12, c1_i32_6⟩
def k0_mult2 (k0_t1 : Fin k0_t1_loop.trips) (k0_t2 : Fin (k0_t2_loop k0_t1).trips) : BitVec 32 :=
  let c0_i32_4 : BitVec 32 := 0#32
  let c1_i32_6 : BitVec 32 := 1#32
  let arg7 : BitVec 32 := Scf.iv c0_i32_4 c1_i32_6 k0_t2
  let c512_i32_21 : BitVec 32 := 512#32
  let v51 : BitVec 32 := Scalar.muli arg7 c512_i32_21
  v51
def k0_off2 (k0_t1 : Fin k0_t1_loop.trips) (k0_t2 : Fin (k0_t2_loop k0_t1).trips) : Fin 4 → Nat :=
  let c0_22 : Index := 0#32
  let c0_23 : Index := 0#32
  let c0_i32_4 : BitVec 32 := 0#32
  let c1_i32_6 : BitVec 32 := 1#32
  let arg7 : BitVec 32 := Scf.iv c0_i32_4 c1_i32_6 k0_t2
  let c512_i32_21 : BitVec 32 := 512#32
  let v51 : BitVec 32 := Scalar.muli arg7 c512_i32_21
  let v52 : BitVec 32 := v51
  let v53 : Index := Scalar.indexCast v52
  let c0_24 : Index := 0#32
  ![0, 0, v53.toNat, 0]
def k0_off3 (k0_t1 : Fin k0_t1_loop.trips) (k0_t2 : Fin (k0_t2_loop k0_t1).trips) : Fin 4 → Nat :=
  let c0_27 : Index := 0#32
  let c0_28 : Index := 0#32
  let c0_29 : Index := 0#32
  let c0_i32_4 : BitVec 32 := 0#32
  let c1_i32_6 : BitVec 32 := 1#32
  let arg7 : BitVec 32 := Scf.iv c0_i32_4 c1_i32_6 k0_t2
  let c512_i32_21 : BitVec 32 := 512#32
  let v51 : BitVec 32 := Scalar.muli arg7 c512_i32_21
  let v52 : BitVec 32 := v51
  let v65 : Index := Scalar.indexCast v52
  ![0, 0, 0, v65.toNat]
@[reducible] def k0_t3_loop (k0_t1 : Fin k0_t1_loop.trips) : Scf.Loop 32 :=
  let c0_i32_4 : BitVec 32 := 0#32
  let c0_i32 : BitVec 32 := 0#32
  let c1_i32 : BitVec 32 := 1#32
  let arg6 : BitVec 32 := Scf.iv c0_i32 c1_i32 k0_t1
  let v8 : BitVec 32 := Scalar.subi arg6 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let v9 : BitVec 32 := Scalar.addi c0_i32_4 v8
  let c1_i32_7 : BitVec 32 := 1#32
  ⟨v12, v9, c1_i32_7⟩
def k0_mult3 (k0_t1 : Fin k0_t1_loop.trips) (k0_t3 : Fin (k0_t3_loop k0_t1).trips) : BitVec 32 :=
  let c0_i32_4 : BitVec 32 := 0#32
  let c0_i32 : BitVec 32 := 0#32
  let c1_i32 : BitVec 32 := 1#32
  let arg6 : BitVec 32 := Scf.iv c0_i32 c1_i32 k0_t1
  let v8 : BitVec 32 := Scalar.subi arg6 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let c1_i32_7 : BitVec 32 := 1#32
  let arg7 : BitVec 32 := Scf.iv v12 c1_i32_7 k0_t3
  let c512_i32_21 : BitVec 32 := 512#32
  let v51 : BitVec 32 := Scalar.muli arg7 c512_i32_21
  v51
def k0_off4 (k0_t1 : Fin k0_t1_loop.trips) (k0_t3 : Fin (k0_t3_loop k0_t1).trips) : Fin 4 → Nat :=
  let c0_22 : Index := 0#32
  let c0_23 : Index := 0#32
  let c0_i32_4 : BitVec 32 := 0#32
  let c0_i32 : BitVec 32 := 0#32
  let c1_i32 : BitVec 32 := 1#32
  let arg6 : BitVec 32 := Scf.iv c0_i32 c1_i32 k0_t1
  let v8 : BitVec 32 := Scalar.subi arg6 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let c1_i32_7 : BitVec 32 := 1#32
  let arg7 : BitVec 32 := Scf.iv v12 c1_i32_7 k0_t3
  let c512_i32_21 : BitVec 32 := 512#32
  let v51 : BitVec 32 := Scalar.muli arg7 c512_i32_21
  let v52 : BitVec 32 := v51
  let v53 : Index := Scalar.indexCast v52
  let c0_24 : Index := 0#32
  ![0, 0, v53.toNat, 0]
def k0_off5 (k0_t1 : Fin k0_t1_loop.trips) (k0_t3 : Fin (k0_t3_loop k0_t1).trips) : Fin 4 → Nat :=
  let c0_27 : Index := 0#32
  let c0_28 : Index := 0#32
  let c0_29 : Index := 0#32
  let c0_i32_4 : BitVec 32 := 0#32
  let c0_i32 : BitVec 32 := 0#32
  let c1_i32 : BitVec 32 := 1#32
  let arg6 : BitVec 32 := Scf.iv c0_i32 c1_i32 k0_t1
  let v8 : BitVec 32 := Scalar.subi arg6 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let c1_i32_7 : BitVec 32 := 1#32
  let arg7 : BitVec 32 := Scf.iv v12 c1_i32_7 k0_t3
  let c512_i32_21 : BitVec 32 := 512#32
  let v51 : BitVec 32 := Scalar.muli arg7 c512_i32_21
  let v52 : BitVec 32 := v51
  let v65 : Index := Scalar.indexCast v52
  ![0, 0, 0, v65.toNat]
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32_8 : BitVec 32 := 512#32
  let v15 : BitVec 32 := Scalar.muli arg6 c512_i32_8
  v15
def k0_off6 (k0_t1 : Fin k0_t1_loop.trips) : Fin 4 → Nat :=
  let c0_9 : Index := 0#32
  let c0_10 : Index := 0#32
  let c0_i32 : BitVec 32 := 0#32
  let c1_i32 : BitVec 32 := 1#32
  let arg6 : BitVec 32 := Scf.iv c0_i32 c1_i32 k0_t1
  let c512_i32_8 : BitVec 32 := 512#32
  let v15 : BitVec 32 := Scalar.muli arg6 c512_i32_8
  let v16 : BitVec 32 := v15
  let v17 : Index := Scalar.indexCast v16
  let c0_11 : Index := 0#32
  ![0, 0, v17.toNat, 0]
def k0_off7 (k0_t1 : Fin k0_t1_loop.trips) : Fin 4 → Nat :=
  let c0_15 : Index := 0#32
  let c0_16 : Index := 0#32
  let c0_17 : Index := 0#32
  let c0_i32 : BitVec 32 := 0#32
  let c1_i32 : BitVec 32 := 1#32
  let arg6 : BitVec 32 := Scf.iv c0_i32 c1_i32 k0_t1
  let c512_i32_8 : BitVec 32 := 512#32
  let v15 : BitVec 32 := Scalar.muli arg6 c512_i32_8
  let v16 : BitVec 32 := v15
  let v34 : Index := Scalar.indexCast v16
  ![0, 0, 0, v34.toNat]
def k0_off8 (k0_t1 : Fin k0_t1_loop.trips) : Fin 3 → Nat :=
  let c0_19 : Index := 0#32
  let c0_20 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v47 : Index := Scalar.indexCast v2
  ![0, 0, v47.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S4x8192x16x64 : Shape := ⟨4, ![4, 8192, 16, 64]⟩
abbrev S4x8192x16x32 : Shape := ⟨4, ![4, 8192, 16, 32]⟩
abbrev S4x8192x32 : Shape := ⟨3, ![4, 8192, 32]⟩
abbrev S4x16x8192x8192 : Shape := ⟨4, ![4, 16, 8192, 8192]⟩
abbrev S4x8192x8192x16 : Shape := ⟨4, ![4, 8192, 8192, 16]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩
abbrev S4x8192x1024 : Shape := ⟨3, ![4, 8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x32, .f32⟩
  | .hbm, ⟨2, _⟩ => ⟨S4x8192x16x64, .f32⟩
  | .hbm, ⟨3, _⟩ => ⟨S4x8192x32, .f32⟩
  | .hbm, ⟨4, _⟩ => ⟨S4x8192x16x64, .f32⟩
  | .hbm, ⟨5, _⟩ => ⟨S4x16x8192x8192, .f32⟩
  | .hbm, ⟨6, _⟩ => ⟨S4x8192x8192x16, .f32⟩
  | .hbm, ⟨7, _⟩ => ⟨S4x16x8192x8192, .f32⟩
  | .hbm, ⟨8, _⟩ => ⟨S4x16x8192x8192, .f32⟩
  | .hbm, ⟨9, _⟩ => ⟨S_, .f32⟩
  | .hbm, ⟨10, _⟩ => ⟨S4x16x8192x8192, .f32⟩
  | .hbm, ⟨11, _⟩ => ⟨S4x16x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S4x16x8192x8192, .i1⟩
  | .hbm, ⟨22, _⟩ => ⟨S4x16x8192x8192, .f32⟩
  | .hbm, ⟨23, _⟩ => ⟨S4x16x8192x8192, .f32⟩
  | .hbm, ⟨24, _⟩ => ⟨S_, .f32⟩
  | .hbm, ⟨25, _⟩ => ⟨S4x16x8192, .f32⟩
  | .hbm, ⟨26, _⟩ => ⟨S_, .f32⟩
  | .hbm, ⟨27, _⟩ => ⟨S4x16x8192, .f32⟩
  | .hbm, ⟨28, _⟩ => ⟨S4x16x8192, .f32⟩
  | .hbm, ⟨29, _⟩ => ⟨S4x16x8192x1, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S_, .f32⟩
  | .hbm, ⟨34, _⟩ => ⟨S4x16x8192, .f32⟩
  | .hbm, ⟨35, _⟩ => ⟨S4x16x8192x1, .f32⟩
  | .hbm, ⟨36, _⟩ => ⟨S4x16x8192x8192, .f32⟩
  | .hbm, ⟨37, _⟩ => ⟨S4x16x8192x8192, .f32⟩
  | .hbm, ⟨38, _⟩ => ⟨S4x16x64x8192, .f32⟩
  | .hbm, ⟨39, _⟩ => ⟨S4x8192x16x64, .f32⟩
  | .hbm, ⟨40, _⟩ => ⟨S4x8192x1024, .f32⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x1024 : Shape := ⟨2, ![1024, 1024]⟩
abbrev S1024 : Shape := ⟨1, ![1024]⟩
abbrev S4x1024x8192 : Shape := ⟨3, ![4, 1024, 8192]⟩
abbrev S32768x1024 : Shape := ⟨2, ![32768, 1024]⟩
abbrev S1x1024 : Shape := ⟨2, ![1, 1024]⟩
abbrev S1x1024x512 : Shape := ⟨3, ![1, 1024, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x1024x8192, .f32⟩
  | .hbm, ⟨6, _⟩ => ⟨S4x1024x8192, .bf16⟩
  | .hbm, ⟨7, _⟩ => ⟨S32768x1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S4x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S1x1x1024, .f32⟩
  | .hbm, ⟨37, _⟩ => ⟨S4x8192x1024, .f32⟩
  | .hbm, ⟨38, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192x16 : Shape := ⟨3, ![4, 8192, 16]⟩
abbrev S1024x416 : Shape := ⟨2, ![1024, 416]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S_ : Shape := ⟨0, ![]⟩
abbrev S32768x64 : Shape := ⟨2, ![32768, 64]⟩
abbrev S32768x32 : Shape := ⟨2, ![32768, 32]⟩
abbrev S32768x16 : Shape := ⟨2, ![32768, 16]⟩
abbrev S4x16x8192 : Shape := ⟨3, ![4, 16, 8192]⟩
abbrev S32768x128 : Shape := ⟨2, ![32768, 128]⟩
abbrev S1024x16 : Shape := ⟨2, ![1024, 16]⟩
abbrev S1024x64 : Shape := ⟨2, ![1024, 64]⟩
abbrev S1024x32 : Shape := ⟨2, ![1024, 32]⟩
abbrev S1024x128 : Shape := ⟨2, ![1024, 128]⟩
abbrev S1024x384 : Shape := ⟨2, ![1024, 384]⟩
abbrev S256x16x96 : Shape := ⟨3, ![256, 16, 96]⟩
abbrev S256x16x64 : Shape := ⟨3, ![256, 16, 64]⟩
abbrev S256x1024 : Shape := ⟨2, ![256, 1024]⟩
abbrev S256x16x16 : Shape := ⟨3, ![256, 16, 16]⟩
abbrev S256x256 : Shape := ⟨2, ![256, 256]⟩
abbrev S1536x256 : Shape := ⟨2, ![1536, 256]⟩
abbrev S128x16x128 : Shape := ⟨3, ![128, 16, 128]⟩
abbrev S128x16x64 : Shape := ⟨3, ![128, 16, 64]⟩
abbrev S128x1024 : Shape := ⟨2, ![128, 1024]⟩
abbrev S384x1024 : Shape := ⟨2, ![384, 1024]⟩
abbrev S256x1 : Shape := ⟨2, ![256, 1]⟩
abbrev S128x1 : Shape := ⟨2, ![128, 1]⟩
abbrev S1x128 : Shape := ⟨2, ![1, 128]⟩
abbrev S32768x1024 : Shape := ⟨2, ![32768, 1024]⟩
abbrev S4x16x128x8192 : Shape := ⟨4, ![4, 16, 128, 8192]⟩
abbrev S4x16x8192x128 : Shape := ⟨4, ![4, 16, 8192, 128]⟩
abbrev S4x16x80x8192 : Shape := ⟨4, ![4, 16, 80, 8192]⟩
abbrev S512x1024 : Shape := ⟨2, ![512, 1024]⟩
abbrev S1x16x512 : Shape := ⟨3, ![1, 16, 512]⟩
abbrev S512x128 : Shape := ⟨2, ![512, 128]⟩
abbrev S1x16x128x512 : Shape := ⟨4, ![1, 16, 128, 512]⟩
abbrev S1x16x512x128 : Shape := ⟨4, ![1, 16, 512, 128]⟩
abbrev S1x16x80x512 : Shape := ⟨4, ![1, 16, 80, 512]⟩
abbrev S384x512 : Shape := ⟨2, ![384, 512]⟩
abbrev S256x512 : Shape := ⟨2, ![256, 512]⟩
abbrev S512 : Shape := ⟨1, ![512]⟩
abbrev S1x512 : Shape := ⟨2, ![1, 512]⟩
abbrev S128x512 : Shape := ⟨2, ![128, 512]⟩
abbrev S1536x512 : Shape := ⟨2, ![1536, 512]⟩
abbrev S1024x512 : Shape := ⟨2, ![1024, 512]⟩
abbrev S16x64x512 : Shape := ⟨3, ![16, 64, 512]⟩
abbrev S16x16x512 : Shape := ⟨3, ![16, 16, 512]⟩
abbrev S1x16x64x512 : Shape := ⟨4, ![1, 16, 64, 512]⟩
abbrev S1x16x16x512 : Shape := ⟨4, ![1, 16, 16, 512]⟩
abbrev S16x32x512 : Shape := ⟨3, ![16, 32, 512]⟩
abbrev S1x16x32x512 : Shape := ⟨4, ![1, 16, 32, 512]⟩
abbrev S512x384 : Shape := ⟨2, ![512, 384]⟩
abbrev S512x1 : Shape := ⟨2, ![512, 1]⟩
abbrev S512x2048 : Shape := ⟨2, ![512, 2048]⟩
abbrev S1x1x512x128 : Shape := ⟨4, ![1, 1, 512, 128]⟩
abbrev S4x16x96x8192 : Shape := ⟨4, ![4, 16, 96, 8192]⟩
abbrev S4x8192x16x96 : Shape := ⟨4, ![4, 8192, 16, 96]⟩
abbrev S4x16x64x8192 : Shape := ⟨4, ![4, 16, 64, 8192]⟩
abbrev S4x8192x16x64 : Shape := ⟨4, ![4, 8192, 16, 64]⟩

abbrev nBuf : Space → Nat
  | .hbm => 65
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192x16, .f32⟩
  | .hbm, ⟨2, _⟩ => ⟨S4x8192x16, .f32⟩
  | .hbm, ⟨3, _⟩ => ⟨S1024x416, .f32⟩
  | .hbm, ⟨4, _⟩ => ⟨S256, .f32⟩
  | .hbm, ⟨5, _⟩ => ⟨S256x1536, .f32⟩
  | .hbm, ⟨6, _⟩ => ⟨S128, .f32⟩
  | .hbm, ⟨7, _⟩ => ⟨S128x2048, .f32⟩
  | .hbm, ⟨8, _⟩ => ⟨S_, .f32⟩
  | .hbm, ⟨9, _⟩ => ⟨S32768x64, .f32⟩
  | .hbm, ⟨10, _⟩ => ⟨S_, .f32⟩
  | .hbm, ⟨11, _⟩ => ⟨S32768x32, .f32⟩
  | .hbm, ⟨12, _⟩ => ⟨S32768x16, .f32⟩
  | .hbm, ⟨13, _⟩ => ⟨S32768x16, .f32⟩
  | .hbm, ⟨14, _⟩ => ⟨S4x16x8192, .f32⟩
  | .hbm, ⟨15, _⟩ => ⟨S4x16x8192, .f32⟩
  | .hbm, ⟨16, _⟩ => ⟨S32768x128, .f32⟩
  | .hbm, ⟨17, _⟩ => ⟨S32768x128, .f32⟩
  | .hbm, ⟨18, _⟩ => ⟨S1024x16, .f32⟩
  | .hbm, ⟨19, _⟩ => ⟨S1024x16, .f32⟩
  | .hbm, ⟨20, _⟩ => ⟨S_, .f32⟩
  | .hbm, ⟨21, _⟩ => ⟨S1024x64, .f32⟩
  | .hbm, ⟨22, _⟩ => ⟨S_, .f32⟩
  | .hbm, ⟨23, _⟩ => ⟨S1024x32, .f32⟩
  | .hbm, ⟨24, _⟩ => ⟨S1024x128, .f32⟩
  | .hbm, ⟨25, _⟩ => ⟨S1024x16, .f32⟩
  | .hbm, ⟨26, _⟩ => ⟨S1024x384, .f32⟩
  | .hbm, ⟨27, _⟩ => ⟨S256x16x96, .f32⟩
  | .hbm, ⟨28, _⟩ => ⟨S256x16x64, .f32⟩
  | .hbm, ⟨29, _⟩ => ⟨S256x1024, .f32⟩
  | .hbm, ⟨30, _⟩ => ⟨S256x16x16, .f32⟩
  | .hbm, ⟨31, _⟩ => ⟨S256x256, .f32⟩
  | .hbm, ⟨32, _⟩ => ⟨S256x16x16, .f32⟩
  | .hbm, ⟨33, _⟩ => ⟨S256x256, .f32⟩
  | .hbm, ⟨34, _⟩ => ⟨S256x1536, .f32⟩
  | .hbm, ⟨35, _⟩ => ⟨S1536x256, .f32⟩
  | .hbm, ⟨36, _⟩ => ⟨S128x16x128, .f32⟩
  | .hbm, ⟨37, _⟩ => ⟨S128x16x64, .f32⟩
  | .hbm, ⟨38, _⟩ => ⟨S_, .f32⟩
  | .hbm, ⟨39, _⟩ => ⟨S128x16x64, .f32⟩
  | .hbm, ⟨40, _⟩ => ⟨S128x16x128, .f32⟩
  | .hbm, ⟨41, _⟩ => ⟨S128x2048, .f32⟩
  | .hbm, ⟨42, _⟩ => ⟨S128x16x64, .f32⟩
  | .hbm, ⟨43, _⟩ => ⟨S128x1024, .f32⟩
  | .hbm, ⟨44, _⟩ => ⟨S1024x128, .f32⟩
  | .hbm, ⟨45, _⟩ => ⟨S1024x384, .f32⟩
  | .hbm, ⟨46, _⟩ => ⟨S384x1024, .f32⟩
  | .hbm, ⟨47, _⟩ => ⟨S384x1024, .bf16⟩
  | .hbm, ⟨48, _⟩ => ⟨S1024x384, .bf16⟩
  | .hbm, ⟨49, _⟩ => ⟨S1536x256, .bf16⟩
  | .hbm, ⟨50, _⟩ => ⟨S1024x128, .bf16⟩
  | .hbm, ⟨51, _⟩ => ⟨S128x2048, .bf16⟩
  | .hbm, ⟨52, _⟩ => ⟨S256x1, .f32⟩
  | .hbm, ⟨53, _⟩ => ⟨S128x1, .f32⟩
  | .hbm, ⟨54, _⟩ => ⟨S1x128, .f32⟩
  | .hbm, ⟨55, _⟩ => ⟨S32768x1024, .f32⟩
  | .hbm, ⟨56, _⟩ => ⟨S4x16x128x8192, .bf16⟩
  | .hbm, ⟨57, _⟩ => ⟨S4x16x8192x128, .bf16⟩
  | .hbm, ⟨58, _⟩ => ⟨S4x16x80x8192, .bf16⟩
  | .hbm, ⟨59, _⟩ => ⟨S4x16x96x8192, .bf16⟩
  | .hbm, ⟨60, _⟩ => ⟨S4x8192x16x96, .bf16⟩
  | .hbm, ⟨61, _⟩ => ⟨S4x8192x16x96, .f32⟩
  | .hbm, ⟨62, _⟩ => ⟨S4x16x64x8192, .bf16⟩
  | .hbm, ⟨63, _⟩ => ⟨S4x8192x16x64, .bf16⟩
  | .hbm, ⟨64, _⟩ => ⟨S4x8192x16x64, .f32⟩
  | .local _ .vmem, ⟨0, _⟩ => ⟨S512x1024, .f32⟩
  | .local _ .vmem, ⟨1, _⟩ => ⟨S512x1024, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S384x1024, .bf16⟩
  | .local _ .vmem, ⟨11, _⟩ => ⟨S1024x384, .bf16⟩
  | .local _ .vmem, ⟨12, _⟩ => ⟨S1536x256, .bf16⟩
  | .local _ .vmem, ⟨13, _⟩ => ⟨S1024x128, .bf16⟩
  | .local _ .vmem, ⟨14, _⟩ => ⟨S128x2048, .bf16⟩
  | .local _ .vmem, ⟨15, _⟩ => ⟨S256x1, .f32⟩
  | .local _ .vmem, ⟨16, _⟩ => ⟨S128x1, .f32⟩
  | .local _ .vmem, ⟨17, _⟩ => ⟨S1x128, .f32⟩
  | .local _ .vmem, ⟨18, _⟩ => ⟨S1x16x128x512, .bf16⟩
  | .local _ .vmem, ⟨19, _⟩ => ⟨S1x16x128x512, .bf16⟩
  | .local _ .vmem, ⟨20, _⟩ => ⟨S1x16x512x128, .bf16⟩
  | .local _ .vmem, ⟨21, _⟩ => ⟨S1x16x512x128, .bf16⟩
  | .local _ .vmem, ⟨22, _⟩ => ⟨S1x16x80x512, .bf16⟩
  | .local _ .vmem, ⟨23, _⟩ => ⟨S1x16x80x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x16x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16x80x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4x8192x1024 : Shape := ⟨3, ![4, 8192, 1024]⟩
abbrev S4x8192x16 : Shape := ⟨3, ![4, 8192, 16]⟩
abbrev S1024x416 : Shape := ⟨2, ![1024, 416]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S4x8192x416 : Shape := ⟨3, ![4, 8192, 416]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S4x8192x128 : Shape := ⟨3, ![4, 8192, 128]⟩
abbrev S1x1x128 : Shape := ⟨3, ![1, 1, 128]⟩
abbrev S4x8192x1536 : Shape := ⟨3, ![4, 8192, 1536]⟩
abbrev S4x8192x16x96 : Shape := ⟨4, ![4, 8192, 16, 96]⟩
abbrev S4x8192x16x64 : Shape := ⟨4, ![4, 8192, 16, 64]⟩
abbrev S4x8192x16x32 : Shape := ⟨4, ![4, 8192, 16, 32]⟩
abbrev S4x8192x1x16 : Shape := ⟨4, ![4, 8192, 1, 16]⟩
abbrev S4x8192x16x16 : Shape := ⟨4, ![4, 8192, 16, 16]⟩
abbrev S4x8192x2048 : Shape := ⟨3, ![4, 8192, 2048]⟩
abbrev S4x8192x16x128 : Shape := ⟨4, ![4, 8192, 16, 128]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x16, .f32⟩
  | .hbm, ⟨2, _⟩ => ⟨S4x8192x16, .f32⟩
  | .hbm, ⟨3, _⟩ => ⟨S1024x416, .f32⟩
  | .hbm, ⟨4, _⟩ => ⟨S256, .f32⟩
  | .hbm, ⟨5, _⟩ => ⟨S256x1536, .f32⟩
  | .hbm, ⟨6, _⟩ => ⟨S128, .f32⟩
  | .hbm, ⟨7, _⟩ => ⟨S128x2048, .f32⟩
  | .hbm, ⟨8, _⟩ => ⟨S4x8192x416, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x256, .f32⟩
  | .hbm, ⟨22, _⟩ => ⟨S4x8192x256, .f32⟩
  | .hbm, ⟨23, _⟩ => ⟨S1x1x256, .f32⟩
  | .hbm, ⟨24, _⟩ => ⟨S4x8192x256, .f32⟩
  | .hbm, ⟨25, _⟩ => ⟨S4x8192x256, .f32⟩
  | .hbm, ⟨26, _⟩ => ⟨S4x8192x128, .f32⟩
  | .hbm, ⟨27, _⟩ => ⟨S4x8192x128, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x128, .f32⟩
  | .hbm, ⟨39, _⟩ => ⟨S4x8192x128, .f32⟩
  | .hbm, ⟨40, _⟩ => ⟨S1x1x128, .f32⟩
  | .hbm, ⟨41, _⟩ => ⟨S4x8192x128, .f32⟩
  | .hbm, ⟨42, _⟩ => ⟨S4x8192x128, .f32⟩
  | .hbm, ⟨43, _⟩ => ⟨S4x8192x1536, .f32⟩
  | .hbm, ⟨44, _⟩ => ⟨S4x8192x16x96, .f32⟩
  | .hbm, ⟨45, _⟩ => ⟨S4x8192x16x64, .f32⟩
  | .hbm, ⟨46, _⟩ => ⟨S4x8192x16x32, .f32⟩
  | .hbm, ⟨47, _⟩ => ⟨S4x8192x1x16, .f32⟩
  | .hbm, ⟨48, _⟩ => ⟨S4x8192x1x16, .f32⟩
  | .hbm, ⟨49, _⟩ => ⟨S4x8192x16x16, .f32⟩
  | .hbm, ⟨50, _⟩ => ⟨S4x8192x16x16, .f32⟩
  | .hbm, ⟨51, _⟩ => ⟨S4x8192x16x16, .f32⟩
  | .hbm, ⟨52, _⟩ => ⟨S4x8192x16x16, .f32⟩
  | .hbm, ⟨53, _⟩ => ⟨S4x8192x16x16, .f32⟩
  | .hbm, ⟨54, _⟩ => ⟨S4x8192x16x16, .f32⟩
  | .hbm, ⟨55, _⟩ => ⟨S4x8192x16x16, .f32⟩
  | .hbm, ⟨56, _⟩ => ⟨S4x8192x16x16, .f32⟩
  | .hbm, ⟨57, _⟩ => ⟨S4x8192x16x16, .f32⟩
  | .hbm, ⟨58, _⟩ => ⟨S4x8192x16x16, .f32⟩
  | .hbm, ⟨59, _⟩ => ⟨S4x8192x16x16, .f32⟩
  | .hbm, ⟨60, _⟩ => ⟨S4x8192x16x16, .f32⟩
  | .hbm, ⟨61, _⟩ => ⟨S4x8192x16x32, .f32⟩
  | .hbm, ⟨62, _⟩ => ⟨S4x8192x2048, .f32⟩
  | .hbm, ⟨63, _⟩ => ⟨S4x8192x16x128, .f32⟩
  | .hbm, ⟨64, _⟩ => ⟨S4x8192x16x64, .f32⟩
  | .hbm, ⟨65, _⟩ => ⟨S4x8192x16x96, .f32⟩
  | .hbm, ⟨66, _⟩ => ⟨S_, .f32⟩
  | .hbm, ⟨67, _⟩ => ⟨S4x8192x16x96, .f32⟩
  | .hbm, ⟨68, _⟩ => ⟨S4x8192x16x96, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.DispatchBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The number of row copies. -/
abbrev NT : ℕ := 65536
/-- One row's credit on the semaphore. -/
abbrev NN : ℕ := 128

/-- Row `ρ` of the padded layout, as the kernel slices it. -/
def slotRow (ρ : ℕ) (h : ρ < 81920) : Memref sig .tc .hbm S1x1024 .f32 :=
  (Memref.whole main_v0).slice (Rect.unit (s := S81920x1024) ![ρ, 0] S1x1024.size
    (fun a => by fin_cases a <;> simp [S1x1024, S81920x1024] <;> omega)) (fun _ => rfl)

/-- Row `r` of the tokens. -/
def tokRow (r : ℕ) (h : r < 32768) : Memref sig .tc .hbm S1x1024 .f32 :=
  (Memref.whole main_arg1).slice (Rect.unit (s := S32768x1024) ![r, 0] S1x1024.size
    (fun a => by fin_cases a <;> simp [S1x1024, S32768x1024] <;> omega)) (fun _ => rfl)

theorem slotRow_eq (ρ : ℕ) (h : ρ < 81920) (o : Fin 2 → ℕ) (ho : o = ![ρ, 0]) (hin) :
    (Memref.whole main_v0).slice (Rect.unit (s := S81920x1024) o S1x1024.size hin) (fun _ => rfl) = slotRow ρ h := by
  subst ho; rfl

theorem tokRow_eq (r : ℕ) (h : r < 32768) (o : Fin 2 → ℕ) (ho : o = ![r, 0]) (hin) :
    (Memref.whole main_arg1).slice (Rect.unit (s := S32768x1024) o S1x1024.size hin) (fun _ => rfl) = tokRow r h := by
  subst ho; rfl

section Rows

variable (c : Dev nD)
-- the words of the table in the order of the copies: copy `2 * r + k` moves token `r` to its `k`-th row
variable (w : Fin NT → BitVec 32) (hw : ∀ t, (w t).toNat < 81920)
variable (X : Buf (Elt F) ((c : Thread nD τ).loc main_arg1)) (V0 G : Buf (Elt F) ((c : Thread nD τ).loc main_v0))

theorem tok_lt (t : Fin NT) : t.val / 2 < 32768 := by have := t.isLt; simp only [NT] at this; omega

/-- What copy `t` needs: the row it writes at contents `V` and a read token of the row it reads. -/
def piece (V : Buf (Elt F) ((c : Thread nD τ).loc main_v0)) (t : Fin NT) : sProp 𝕄 :=
  iprop(((slotRow (w t).toNat (hw t)).view.loc (c : Thread nD τ) ↦[(slotRow (w t).toNat (hw t)).view.set]{fullShare} V)
    ∗ ((tokRow (t.val / 2) (tok_lt t)).view.loc (c : Thread nD τ) ↦[(tokRow (t.val / 2) (tok_lt t)).view.set]{Transfers.shareTokN fullShare t.val} X))

instance piece_storable (V : Buf (Elt F) ((c : Thread nD τ).loc main_v0)) (t : Fin NT) :
    BI.Storable (upEmb : UEmb _ 𝕄) (piece c w hw X V t)   := by
  unfold piece
  haveI : BI.Storable (upEmb : UEmb _ 𝕄) (((slotRow (w t).toNat (hw t)).view.loc (c : Thread nD τ) ↦[(slotRow (w t).toNat (hw t)).view.set]{fullShare} V) : sProp 𝕄) := Region.storable_held _ _ _ _
  haveI : BI.Storable (upEmb : UEmb _ 𝕄) (((tokRow (t.val / 2) (tok_lt t)).view.loc (c : Thread nD τ) ↦[(tokRow (t.val / 2) (tok_lt t)).view.set]{Transfers.shareTokN fullShare t.val} X) : sProp 𝕄) := Region.storable_held _ _ _ _
  infer_instance

/-- The batch of all row copies: `j` issued, `u` units consumed. -/
abbrev batch (j u : ℕ) : sProp 𝕄 :=
  Transfers.Batch (countersEmb (U := Pipeline.UD sig nD τ)) (c : Thread nD τ) (.dma 2) () NN (piece c w hw X G) j u

/-- The hypothesis that every row copy leaves the final contents on its row. -/
def Lands : Prop := ∀ t, ∀ i ∈ (slotRow (w t).toNat (hw t)).view.set,
      (slotRow (w t).toNat (hw t)).view.write (Elt F) V0
        (ReadAs.same.apply ((tokRow (t.val / 2) (tok_lt t)).view.read (Elt F) X)) Finset.univ i = G i

/-- A piece at the kernel's own spelling of its two slices. -/
theorem piece_at (V : Buf (Elt F) ((c : Thread nD τ).loc main_v0)) (t : Fin NT) (o o' : Fin 2 → ℕ) (ho : o = ![(w t).toNat, 0]) (ho' : o' = ![t.val / 2, 0]) (hin hin') :
    piece c w hw X V t = iprop(
      ((((Memref.whole main_v0).slice (Rect.unit (s := S81920x1024) o S1x1024.size hin) (fun _ => rfl)).view.loc (c : Thread nD τ)
          ↦[((Memref.whole main_v0).slice (Rect.unit (s := S81920x1024) o S1x1024.size hin) (fun _ => rfl)).view.set]{fullShare} V) : sProp 𝕄)
      ∗ (((Memref.whole main_arg1).slice (Rect.unit (s := S32768x1024) o' S1x1024.size hin') (fun _ => rfl)).view.loc (c : Thread nD τ)
          ↦[((Memref.whole main_arg1).slice (Rect.unit (s := S32768x1024) o' S1x1024.size hin') (fun _ => rfl)).view.set]{Transfers.shareTokN fullShare t.val} X)) := by
  subst ho ho'; rfl

/-- Copy `t` issued: what it delivers is the piece at the final contents. -/
theorem deliver (hG : Lands c w hw X V0 G) (t : Fin NT) (o o' : Fin 2 → ℕ) (ho : o = ![(w t).toNat, 0]) (ho' : o' = ![t.val / 2, 0]) (hin hin') :
    (iprop(
      ((((Memref.whole main_v0).slice (Rect.unit (s := S81920x1024) o S1x1024.size hin) (fun _ => rfl)).view.loc (c : Thread nD τ)
          ↦[((Memref.whole main_v0).slice (Rect.unit (s := S81920x1024) o S1x1024.size hin) (fun _ => rfl)).view.set]{fullShare}
           ((Memref.whole main_v0).slice (Rect.unit (s := S81920x1024) o S1x1024.size hin) (fun _ => rfl)).view.write (Elt F) V0
            (ReadAs.same.apply (((Memref.whole main_arg1).slice (Rect.unit (s := S32768x1024) o' S1x1024.size hin') (fun _ => rfl)).view.read (Elt F) X)) Finset.univ) : sProp 𝕄)
      ∗ (((Memref.whole main_arg1).slice (Rect.unit (s := S32768x1024) o' S1x1024.size hin') (fun _ => rfl)).view.loc (c : Thread nD τ)
          ↦[((Memref.whole main_arg1).slice (Rect.unit (s := S32768x1024) o' S1x1024.size hin') (fun _ => rfl)).view.set]{Transfers.shareTokN fullShare t.val} X)) : sProp 𝕄)
      ⊢ piece c w hw X G t := by
  subst ho ho'
  exact Entails.of_eq (congrArg (fun P : sProp 𝕄 => iprop(P ∗ ((tokRow (t.val / 2) (tok_lt t)).view.loc (c : Thread nD τ) ↦[(tokRow (t.val / 2) (tok_lt t)).view.set]{Transfers.shareTokN fullShare t.val} X))) (pointsTo_congr (hG t)))

/-- Before trip `k` of point `p`'s issue loop. -/
def issueAt (p u : ℕ) (arg1 : Memref sig .tc .smem S2x512 .i32) (f : Buf (Elt F) (arg1.view.loc (c : Thread nD τ))) (k : ℕ) (_ : Unit) : sProp 𝕄 :=
  iprop(batch c w hw X G (1024 * p + 2 * k) u ∗ (arg1.view.loc (c : Thread nD τ) ↦{fullShare} f)
    ∗ bigSep (Ring.rangeSet NT (1024 * p + 2 * k) NT) (piece c w hw X V0))

theorem amt (ρ h) : (slotRow ρ h).view.amount (SemLoc.dma (sig := sig) 2) = NN := by
  show RefSig.tileCredit S1x1024 .f32 = NN
  decide

/-- The hypothesis that point `i`'s block of the table holds the words of its copies. -/
structure Holds (i : grid0.Coords) (arg1 : Memref sig .tc .smem S2x512 .i32) (f : Buf (Elt F) (arg1.view.loc (c : Thread nD τ))) : Prop where
  fst : ∀ (k : Fin k0_t1_loop.trips) (ht : 1024 * (i 0).val + 2 * k.val < NT),
    (arg1.access (Rect.unit (s := S2x512) (k0_off1 k) S1x1.size (k0_off1_inb k))).read (Elt F) f (Shape.Idx.first (numel1_S1x1.symm ▸ Nat.one_pos))
      = w ⟨1024 * (i 0).val + 2 * k.val, ht⟩
  snd : ∀ (k : Fin k0_t1_loop.trips) (ht : 1024 * (i 0).val + 2 * k.val + 1 < NT),
    (arg1.access (Rect.unit (s := S2x512) (k0_off4 k) S1x1.size (k0_off4_inb k))).read (Elt F) f (Shape.Idx.first (numel1_S1x1.symm ▸ Nat.one_pos))
      = w ⟨1024 * (i 0).val + 2 * k.val + 1, ht⟩

theorem ret_bind_wp (c : Dev nD) {α β : Type} (a : α) (k : α → Prog (TpuEff nD τ sig (Elt F) _ (c : Thread nD τ).2) β) (Q : β → sProp 𝕄) :
    wp frame (wpE (defs₀ (F := F)) Variants.none (c : Thread nD τ) none) Set.univ (k a) Q
      ⊢ wp frame (wpE (defs₀ (F := F)) Variants.none (c : Thread nD τ) none) Set.univ ((Prog.ret a).bind k) Q := .rfl

theorem issue_step (hG : Lands c w hw X V0 G)
    (i : grid0.Coords) (u : ℕ) (hu : u ≤ (1024 * (i 0).val) * NN)
    (arg1 : Memref sig .tc .smem S2x512 .i32) (harg1 : arg1.IsWhole) (f : Buf (Elt F) (arg1.view.loc (c : Thread nD τ)))
    (hf : Holds c w i arg1 f)
    (k : Fin k0_t1_loop.trips) (acc : Unit) :
    issueAt c w hw X V0 G (i 0).val u arg1 f k.val acc ⊢
     wp frame (wpE (defs₀ (F := F)) Variants.none (c : Thread nD τ) none) Set.univ
      (k0_t1_body (F := F) i arg1 harg1 (Memref.whole main_arg1) (Memref.isWhole_whole _) (Memref.whole main_v0) (Memref.isWhole_whole _) (Memref.whole main_v0) (Memref.isWhole_whole _) cc0_scratch0 k acc)
      (issueAt c w hw X V0 G (i 0).val u arg1 f (k.val + 1)) := by
  have hk : k.val < 512 := k.isLt
  have hi : (i 0).val < 64 := (i 0).isLt
  have ht0 : 1024 * (i 0).val + 2 * k.val < NT := by simp only [NT]; omega
  have ht1 : 1024 * (i 0).val + 2 * k.val + 1 < NT := by simp only [NT]; omega
  unfold issueAt
  rw [Ring.bigSep_rangeSet_head ht0 ht0,
    Ring.bigSep_rangeSet_head (lo := 1024 * (i 0).val + 2 * k.val + 1) ht1 ht1,
    show 1024 * (i 0).val + 2 * (k.val + 1) = 1024 * (i 0).val + 2 * k.val + 1 + 1 by omega]
  have e0 : k0_off3 i k = ![(1024 * (i 0).val + 2 * k.val) / 2, 0] := by
    rw [k0_off3_eq]; congr 1; omega
  have e1 : k0_off6 i k = ![(1024 * (i 0).val + 2 * k.val + 1) / 2, 0] := by
    rw [k0_off6_eq]; congr 1; omega
  iintro ⟨HB, HS, HP0, HP1, HPs⟩
  unfold k0_t1_body
  sl_exec
  generalize hv : issue_step.sl.r c arg1 f k = v
  obtain rfl : v = w ⟨1024 * (i 0).val + 2 * k.val, ht0⟩ := hv.symm.trans (hf.fst k ht0)
  clear hv
  have hd0 : k0_chk1 (w ⟨1024 * (i 0).val + 2 * k.val, ht0⟩) := by
    intro a; have := hw ⟨1024 * (i 0).val + 2 * k.val, ht0⟩
    fin_cases a <;> simp [k0_off2, S1x1024, S81920x1024] <;> omega
  iapply (wp_assume _ _ _ _ hd0)
  ihave HP0' := (Entails.of_eq (piece_at c w hw X V0 ⟨1024 * (i 0).val + 2 * k.val, ht0⟩ _ _ rfl e0 (k0_off2_inb _ hd0) (k0_off3_inb i k))) $$ HP0
  icases HP0' with ⟨HD0, HX0⟩
  iapply (Transfers.wp_dmaBatch (j := 1024 * (i 0).val + 2 * k.val) (u := u) (countersEmb (U := Pipeline.UD sig nD τ)) _ _ _ () NN (amt _ (hw ⟨1024 * (i 0).val + 2 * k.val, ht0⟩)) (Finset.Subset.refl _) ht0
    (by simp only [NN] at hu ⊢; omega) (deliver c w hw X V0 G hG ⟨_, ht0⟩ _ _ rfl e0 (k0_off2_inb _ hd0) (k0_off3_inb i k))) $$ [HD0 HX0 HB]
  · isplitl [HX0]; · iexact HX0
    isplitl [HD0]; · iexact HD0
    iexact HB
  iintro HB
  iapply (ret_bind_wp c)
  sl_exec
  generalize hv : issue_step.sl.r_1 c arg1 f k = v
  obtain rfl : v = w ⟨1024 * (i 0).val + 2 * k.val + 1, ht1⟩ := hv.symm.trans (hf.snd k ht1)
  clear hv
  have hd1 : k0_chk2 (w ⟨1024 * (i 0).val + 2 * k.val + 1, ht1⟩) := by
    intro a; have := hw ⟨1024 * (i 0).val + 2 * k.val + 1, ht1⟩
    fin_cases a <;> simp [k0_off5, S1x1024, S81920x1024] <;> omega
  iapply (wp_assume _ _ _ _ hd1)
  ihave HP1' := (Entails.of_eq (piece_at c w hw X V0 ⟨1024 * (i 0).val + 2 * k.val + 1, ht1⟩ _ _ rfl e1 (k0_off5_inb _ hd1) (k0_off6_inb i k))) $$ HP1
  icases HP1' with ⟨HD1, HX1⟩
  iapply (Transfers.wp_dmaBatch (j := 1024 * (i 0).val + 2 * k.val + 1) (u := u) (countersEmb (U := Pipeline.UD sig nD τ)) _ _ _ () NN (amt _ (hw ⟨1024 * (i 0).val + 2 * k.val + 1, ht1⟩)) (Finset.Subset.refl _) ht1
    (by simp only [NN] at hu ⊢; omega) (deliver c w hw X V0 G hG ⟨_, ht1⟩ _ _ rfl e1 (k0_off5_inb _ hd1) (k0_off6_inb i k))) $$ [HD1 HX1 HB]
  · isplitl [HX1]; · iexact HX1
    isplitl [HD1]; · iexact HD1
    iexact HB
  iintro HB
  iapply (ret_bind_wp c)
  sl_exec
  sl_step
  isplitl [HB]; · iexact HB
  isplitl [HS]; · iexact HS
  iexact HPs

/-- Before trip `k` of a wait loop that starts with `j` copies issued and `u` units consumed. -/
def waitAt (j u : ℕ) (k : ℕ) (_ : Unit) : sProp 𝕄 :=
  iprop((∃ W, owes (c : Thread nD τ) 0 W) ∗ batch c w hw X G j (u + 2 * NN * k))

theorem wait2_step (plan : Transfers.InterleavedWaits (c : Thread nD τ) (SemLoc.dma (sig := sig) 2))
    (i : grid0.Coords) (j u : ℕ) (hu : u + 2 * NN * 512 ≤ NN * j)
    (arg1 : Memref sig .tc .smem S2x512 .i32) (harg1 : arg1.IsWhole) (h1 : k0_cond1 i = 1#1)
    (k : Fin k0_t2_loop.trips) (acc : Unit) :
    waitAt c w hw X G j u k.val acc ⊢
     wp frame (wpE (defs₀ (F := F)) Variants.none (c : Thread nD τ) none) Set.univ
      (k0_t2_body (F := F) i arg1 harg1 (Memref.whole main_arg1) (Memref.isWhole_whole _) (Memref.whole main_v0) (Memref.isWhole_whole _) (Memref.whole main_v0) (Memref.isWhole_whole _) cc0_scratch0 h1 k acc)
      (waitAt c w hw X G j u (k.val + 1)) := by
  have hk : k.val < 512 := k.isLt
  simp only [NN] at hu
  unfold waitAt
  rw [show u + 2 * NN * (k.val + 1) = u + 2 * NN * k.val + 1 * NN + 1 * NN by simp only [NN]; omega]
  iintro ⟨⟨%W, HO⟩, HB⟩
  unfold k0_t2_body
  sl_exec
  sl_step
  isplitl [HO]; · iexists _; iexact HO
  iexact HB

theorem wait3_step (plan : Transfers.InterleavedWaits (c : Thread nD τ) (SemLoc.dma (sig := sig) 2))
    (i : grid0.Coords) (j u : ℕ) (hu : u + 2 * NN * 512 ≤ NN * j)
    (arg1 : Memref sig .tc .smem S2x512 .i32) (harg1 : arg1.IsWhole) (h2 : k0_cond2 i = 1#1)
    (k : Fin k0_t3_loop.trips) (acc : Unit) :
    waitAt c w hw X G j u k.val acc ⊢
     wp frame (wpE (defs₀ (F := F)) Variants.none (c : Thread nD τ) none) Set.univ
      (k0_t3_body (F := F) i arg1 harg1 (Memref.whole main_arg1) (Memref.isWhole_whole _) (Memref.whole main_v0) (Memref.isWhole_whole _) (Memref.whole main_v0) (Memref.isWhole_whole _) cc0_scratch0 h2 k acc)
      (waitAt c w hw X G j u (k.val + 1)) := by
  have hk : k.val < 512 := k.isLt
  simp only [NN] at hu
  unfold waitAt
  rw [show u + 2 * NN * (k.val + 1) = u + 2 * NN * k.val + 1 * NN + 1 * NN by simp only [NN]; omega]
  iintro ⟨⟨%W, HO⟩, HB⟩
  unfold k0_t3_body
  sl_exec
  sl_step
  isplitl [HO]; · iexists _; iexact HO
  iexact HB

theorem cond1_of (i : grid0.Coords) (h : 0 < (i 0).val) : k0_cond1 i = 1#1 := by
  have : ∀ a : Fin 64, 0 < a.val → (Scalar.cmpi .ne (Scalar.extui (Scalar.cmpi .sgt (BitVec.ofNat 32 a.val) 0#32)) 0#32) = 1#1 := by decide
  exact this (i 0) h

theorem cond2_not (i : grid0.Coords) (h : (i 0).val ≠ 63) : ¬ k0_cond2 i = 1#1 := by
  have : ∀ a : Fin 64, a.val ≠ 63 → ¬ (Scalar.cmpi .ne (Scalar.extui (Scalar.cmpi .eq (BitVec.ofNat 32 a.val) 63#32)) 0#32) = 1#1 := by decide
  exact this (i 0) h

/-- The body at the first grid point: it issues its copies and waits for none. -/
theorem body_first (hG : Lands c w hw X V0 G)
    (i : grid0.Coords) (hi : (i 0).val = 0)
    (arg1 : Memref sig .tc .smem S2x512 .i32) (harg1 : arg1.IsWhole) (f : Buf (Elt F) (arg1.view.loc (c : Thread nD τ)))
    (hf : Holds c w i arg1 f) :
    iprop((∃ W, owes (c : Thread nD τ) 0 W) ∗ batch c w hw X G (1024 * (i 0).val) 0 ∗ (arg1.view.loc (c : Thread nD τ) ↦{fullShare} f)
        ∗ bigSep (Ring.rangeSet NT (1024 * (i 0).val) NT) (piece c w hw X V0)) ⊢
     wp frame (wpE (defs₀ (F := F)) Variants.none (c : Thread nD τ) none) Set.univ
      (cc0_moe_dispatch (F := F) i arg1 harg1 (Memref.whole main_arg1) (Memref.isWhole_whole _) (Memref.whole main_v0) (Memref.isWhole_whole _) (Memref.whole main_v0) (Memref.isWhole_whole _) cc0_scratch0)
      (fun _ => iprop((∃ W, owes (c : Thread nD τ) 0 W) ∗ batch c w hw X G (1024 * ((i 0).val + 1)) 0 ∗ (arg1.view.loc (c : Thread nD τ) ↦{fullShare} f)
        ∗ bigSep (Ring.rangeSet NT (1024 * ((i 0).val + 1)) NT) (piece c w hw X V0))) := by
  have h1 : ¬ k0_cond1 i = 1#1 := by unfold k0_cond1; rw [hi]; decide
  have h2 : ¬ k0_cond2 i = 1#1 := by unfold k0_cond2; rw [hi]; decide
  iintro ⟨HO, HB, HS, HP⟩
  simp only [cc0_moe_dispatch_eq_skeleton]; unfold cc0_moe_dispatch_skel
  sl_for (issueAt c w hw X V0 G (i 0).val 0 arg1 f) $$ [HB HS HP]
  · intro k acc; exact issue_step c w hw X V0 G hG i 0 (by simp only [NN]; omega) arg1 harg1 f hf k acc
  · unfold issueAt
    isplitl [HB]; · iexact HB
    isplitl [HS]; · iexact HS
    iexact HP
  iintro %acc HL
  ihave HL' := (show issueAt c w hw X V0 G (i 0).val 0 arg1 f k0_t1_loop.trips acc ⊢ iprop(batch c w hw X G (1024 * ((i 0).val + 1)) 0
      ∗ (arg1.view.loc (c : Thread nD τ) ↦{fullShare} f) ∗ bigSep (Ring.rangeSet NT (1024 * ((i 0).val + 1)) NT) (piece c w hw X V0)) from by
        rw [show 1024 * ((i 0).val + 1) = 1024 * (i 0).val + 2 * k0_t1_loop.trips from by rw [show k0_t1_loop.trips = 512 from rfl]; omega]
        exact .rfl) $$ HL
  icases HL' with ⟨HB, HS, HP⟩
  sl_exec
  sl_step
  isplitl [HO]; · iexact HO
  isplitl [HB]; · iexact HB
  isplitl [HS]; · iexact HS
  iexact HP

/-- The body at a point between the first and the last: it issues its copies and waits for as many as the point before issued. -/
theorem body_mid (hG : Lands c w hw X V0 G) (plan : Transfers.InterleavedWaits (c : Thread nD τ) (SemLoc.dma (sig := sig) 2))
    (i : grid0.Coords) (hi : 0 < (i 0).val ∧ (i 0).val < 63)
    (arg1 : Memref sig .tc .smem S2x512 .i32) (harg1 : arg1.IsWhole) (f : Buf (Elt F) (arg1.view.loc (c : Thread nD τ)))
    (hf : Holds c w i arg1 f) :
    iprop((∃ W, owes (c : Thread nD τ) 0 W) ∗ batch c w hw X G (1024 * (i 0).val) (NN * 1024 * ((i 0).val - 1)) ∗ (arg1.view.loc (c : Thread nD τ) ↦{fullShare} f)
        ∗ bigSep (Ring.rangeSet NT (1024 * (i 0).val) NT) (piece c w hw X V0)) ⊢
     wp frame (wpE (defs₀ (F := F)) Variants.none (c : Thread nD τ) none) Set.univ
      (cc0_moe_dispatch (F := F) i arg1 harg1 (Memref.whole main_arg1) (Memref.isWhole_whole _) (Memref.whole main_v0) (Memref.isWhole_whole _) (Memref.whole main_v0) (Memref.isWhole_whole _) cc0_scratch0)
      (fun _ => iprop((∃ W, owes (c : Thread nD τ) 0 W) ∗ batch c w hw X G (1024 * ((i 0).val + 1)) (NN * 1024 * (i 0).val) ∗ (arg1.view.loc (c : Thread nD τ) ↦{fullShare} f)
        ∗ bigSep (Ring.rangeSet NT (1024 * ((i 0).val + 1)) NT) (piece c w hw X V0))) := by
  have h1 : k0_cond1 i = 1#1 := cond1_of i hi.1
  have h2 : ¬ k0_cond2 i = 1#1 := cond2_not i (by omega)
  iintro ⟨HO, HB, HS, HP⟩
  simp only [cc0_moe_dispatch_eq_skeleton]; unfold cc0_moe_dispatch_skel
  sl_for (issueAt c w hw X V0 G (i 0).val (NN * 1024 * ((i 0).val - 1)) arg1 f) $$ [HB HS HP]
  · intro k acc; exact issue_step c w hw X V0 G hG i (NN * 1024 * ((i 0).val - 1)) (by simp only [NN]; omega) arg1 harg1 f hf k acc
  · unfold issueAt
    isplitl [HB]; · iexact HB
    isplitl [HS]; · iexact HS
    iexact HP
  iintro %acc HL
  ihave HL' := (show issueAt c w hw X V0 G (i 0).val (NN * 1024 * ((i 0).val - 1)) arg1 f k0_t1_loop.trips acc ⊢ iprop(batch c w hw X G (1024 * ((i 0).val + 1)) (NN * 1024 * ((i 0).val - 1))
      ∗ (arg1.view.loc (c : Thread nD τ) ↦{fullShare} f) ∗ bigSep (Ring.rangeSet NT (1024 * ((i 0).val + 1)) NT) (piece c w hw X V0)) from by
        rw [show 1024 * ((i 0).val + 1) = 1024 * (i 0).val + 2 * k0_t1_loop.trips from by rw [show k0_t1_loop.trips = 512 from rfl]; omega]
        exact .rfl) $$ HL
  icases HL' with ⟨HB, HS, HP⟩
  sl_exec
  sl_for (waitAt c w hw X G (1024 * ((i 0).val + 1)) (NN * 1024 * ((i 0).val - 1))) $$ [HB HO]
  · intro k acc; exact wait2_step c w hw X G plan i _ _ (by simp only [NN]; omega) arg1 harg1 h1 k acc
  · unfold waitAt
    isplitl [HO]; · iexact HO
    iexact HB
  iintro %acc2 HL
  ihave HL' := (show waitAt c w hw X G (1024 * ((i 0).val + 1)) (NN * 1024 * ((i 0).val - 1)) k0_t2_loop.trips acc2 ⊢ iprop((∃ W, owes (c : Thread nD τ) 0 W)
      ∗ batch c w hw X G (1024 * ((i 0).val + 1)) (NN * 1024 * (i 0).val)) from by
        rw [show (NN * 1024 * (i 0).val) = (NN * 1024 * ((i 0).val - 1)) + 2 * NN * k0_t2_loop.trips from by rw [show k0_t2_loop.trips = 512 from rfl]; simp only [NN, NT]; omega]

        exact .rfl) $$ HL
  icases HL' with ⟨HO, HB⟩
  sl_exec
  sl_step
  isplitl [HO]; · iexact HO
  isplitl [HB]; · iexact HB
  isplitl [HS]; · iexact HS
  iexact HP

/-- The body at the last point: after it, every copy has landed. -/
theorem body_last (hG : Lands c w hw X V0 G) (plan : Transfers.InterleavedWaits (c : Thread nD τ) (SemLoc.dma (sig := sig) 2))
    (i : grid0.Coords) (hi : (i 0).val = 63)
    (arg1 : Memref sig .tc .smem S2x512 .i32) (harg1 : arg1.IsWhole) (f : Buf (Elt F) (arg1.view.loc (c : Thread nD τ)))
    (hf : Holds c w i arg1 f) :
    iprop((∃ W, owes (c : Thread nD τ) 0 W) ∗ batch c w hw X G (1024 * (i 0).val) (NN * 1024 * ((i 0).val - 1)) ∗ (arg1.view.loc (c : Thread nD τ) ↦{fullShare} f)
        ∗ bigSep (Ring.rangeSet NT (1024 * (i 0).val) NT) (piece c w hw X V0)) ⊢
     wp frame (wpE (defs₀ (F := F)) Variants.none (c : Thread nD τ) none) Set.univ
      (cc0_moe_dispatch (F := F) i arg1 harg1 (Memref.whole main_arg1) (Memref.isWhole_whole _) (Memref.whole main_v0) (Memref.isWhole_whole _) (Memref.whole main_v0) (Memref.isWhole_whole _) cc0_scratch0)
      (fun _ => iprop((∃ W, owes (c : Thread nD τ) 0 W) ∗ (bigSep Finset.univ (piece c w hw X G) ∗ semVal ((c : Thread nD τ), .dma 2) 0) ∗ (arg1.view.loc (c : Thread nD τ) ↦{fullShare} f)
        ∗ bigSep (Ring.rangeSet NT (1024 * ((i 0).val + 1)) NT) (piece c w hw X V0))) := by
  have h1 : k0_cond1 i = 1#1 := cond1_of i (by omega)
  have h2 : k0_cond2 i = 1#1 := by unfold k0_cond2; rw [hi]; decide
  iintro ⟨HO, HB, HS, HP⟩
  simp only [cc0_moe_dispatch_eq_skeleton]; unfold cc0_moe_dispatch_skel
  sl_for (issueAt c w hw X V0 G (i 0).val (NN * 1024 * ((i 0).val - 1)) arg1 f) $$ [HB HS HP]
  · intro k acc; exact issue_step c w hw X V0 G hG i (NN * 1024 * ((i 0).val - 1)) (by simp only [NN]; omega) arg1 harg1 f hf k acc
  · unfold issueAt
    isplitl [HB]; · iexact HB
    isplitl [HS]; · iexact HS
    iexact HP
  iintro %acc HL
  ihave HL' := (show issueAt c w hw X V0 G (i 0).val (NN * 1024 * ((i 0).val - 1)) arg1 f k0_t1_loop.trips acc ⊢ iprop(batch c w hw X G (1024 * ((i 0).val + 1)) (NN * 1024 * ((i 0).val - 1))
      ∗ (arg1.view.loc (c : Thread nD τ) ↦{fullShare} f) ∗ bigSep (Ring.rangeSet NT (1024 * ((i 0).val + 1)) NT) (piece c w hw X V0)) from by
        rw [show 1024 * ((i 0).val + 1) = 1024 * (i 0).val + 2 * k0_t1_loop.trips from by rw [show k0_t1_loop.trips = 512 from rfl]; omega]
        exact .rfl) $$ HL
  icases HL' with ⟨HB, HS, HP⟩
  sl_exec
  sl_for (waitAt c w hw X G (1024 * ((i 0).val + 1)) (NN * 1024 * ((i 0).val - 1))) $$ [HB HO]
  · intro k acc; exact wait2_step c w hw X G plan i _ _ (by simp only [NN]; omega) arg1 harg1 h1 k acc
  · unfold waitAt
    isplitl [HO]; · iexact HO
    iexact HB
  iintro %acc2 HL
  ihave HL' := (show waitAt c w hw X G (1024 * ((i 0).val + 1)) (NN * 1024 * ((i 0).val - 1)) k0_t2_loop.trips acc2 ⊢ iprop((∃ W, owes (c : Thread nD τ) 0 W)
      ∗ batch c w hw X G (1024 * ((i 0).val + 1)) (NN * 1024 * (i 0).val)) from by
        rw [show (NN * 1024 * (i 0).val) = (NN * 1024 * ((i 0).val - 1)) + 2 * NN * k0_t2_loop.trips from by rw [show k0_t2_loop.trips = 512 from rfl]; simp only [NN, NT]; omega]

        exact .rfl) $$ HL
  icases HL' with ⟨HO, HB⟩
  sl_exec
  sl_for (waitAt c w hw X G (1024 * ((i 0).val + 1)) (NN * 1024 * (i 0).val)) $$ [HB HO]
  · intro k acc; exact wait3_step c w hw X G plan i _ _ (by simp only [NN]; omega) arg1 harg1 h2 k acc
  · unfold waitAt
    isplitl [HO]; · iexact HO
    iexact HB
  iintro %acc3 HL
  ihave HL' := (show waitAt c w hw X G (1024 * ((i 0).val + 1)) (NN * 1024 * (i 0).val) k0_t3_loop.trips acc3 ⊢ iprop((∃ W, owes (c : Thread nD τ) 0 W)
      ∗ batch c w hw X G NT (NN * NT)) from by
        rw [show (NN * NT) = (NN * 1024 * (i 0).val) + 2 * NN * k0_t3_loop.trips from by rw [show k0_t3_loop.trips = 512 from rfl]; simp only [NN, NT]; omega]
        rw [show NT = 1024 * ((i 0).val + 1) from by simp only [NT]; omega]
        exact .rfl) $$ HL
  icases HL' with ⟨HO, HB⟩
  imod (Transfers.batch_collect' (countersEmb (U := Pipeline.UD sig nD τ)) (c : Thread nD τ) (N := NN) (by decide) (D := piece c w hw X G)) $$ HB with ⟨Hall, Hc⟩
  sl_step
  isplitl [HO]; · iexact HO
  isplitl [Hall Hc]
  · isplitl [Hall]; · iexact Hall
    iexact Hc
  isplitl [HS]; · iexact HS
  iexact HP

end Rows

end Cert.KernelIdeal.Dispatch
end
-- ==== Proof.DispatchSplit.lean ====
module

public import proofs.«01_k».proof.Proof.DispatchBody
public import Idealize.ShloMosaic.Lib.ViewIndex

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! The two arrays the copies touch, cut into the pieces the copies need and put together again. -/

/-- The elements of a row of the padded layout are those whose first coordinate is the row. -/
theorem mem_slotRow (ρ : ℕ) (h : ρ < 81920) (i : S81920x1024.Idx) : i ∈ (slotRow ρ h).view.set ↔ (i 0).val = ρ := by
  have hs : ((slotRow ρ h).view.set : Finset S81920x1024.Idx) = (Rect.unit (s := S81920x1024) ![ρ, 0] S1x1024.size
    (fun a => by fin_cases a <;> simp [S1x1024, S81920x1024] <;> omega)).set := View.set_slice_whole main_v0 _
  refine (iff_of_eq (congrArg (fun S : Finset S81920x1024.Idx => i ∈ S) hs)).trans (Rect.mem_set_unit.trans ?_)
  constructor
  · intro hi
    have := hi 0
    simp [S1x1024] at this
    omega
  · intro hi a
    fin_cases a
    · simp [S1x1024, hi]
    · have := (i 1).isLt
      simp [S1x1024, S81920x1024] at this ⊢
      exact this

/-- Where a row's elements lie in the padded layout, and in the tokens. -/
def slotAt (ρ : ℕ) (h : ρ < 81920) (y : S1x1024.Idx) : S81920x1024.Idx := (slotRow ρ h).view.emb y
def tokAt (r : ℕ) (h : r < 32768) (y : S1x1024.Idx) : S32768x1024.Idx := (tokRow r h).view.emb y

theorem slotRow_emb (ρ : ℕ) (h : ρ < 81920) (y : S1x1024.Idx) :
    (slotAt ρ h y 0).val = ρ ∧ (slotAt ρ h y 1).val = (y 1).val := by
  have hy : (y 0).val = 0 := by have := (y 0).isLt; simp [S1x1024] at this; omega
  constructor
  · show ρ + 1 * (y 0).val = ρ
    omega
  · show 0 + 1 * (y 1).val = _
    omega

theorem tokRow_emb (r : ℕ) (h : r < 32768) (y : S1x1024.Idx) :
    (tokAt r h y 0).val = r ∧ (tokAt r h y 1).val = (y 1).val := by
  have hy : (y 0).val = 0 := by have := (y 0).isLt; simp [S1x1024] at this; omega
  constructor
  · show r + 1 * (y 0).val = r
    omega
  · show 0 + 1 * (y 1).val = _
    omega

/-- The index in the tokens of what copy `t` puts at index `i` of the padded layout. -/
def tokIdx (t : Fin NT) (i : S81920x1024.Idx) : S32768x1024.Idx := fun a => match a with
  | ⟨0, _⟩ => (⟨t.val / 2, tok_lt t⟩ : Fin 32768)
  | ⟨1, _⟩ => (i 1 : Fin 1024)

section Rows

variable (c : Dev nD)
variable (w : Fin NT → BitVec 32) (hw : ∀ t, (w t).toNat < 81920)
variable (hinj : Function.Injective fun t => (w t).toNat)
variable (X : Buf (Elt F) ((c : Thread nD τ).loc main_arg1)) (V0 : Buf (Elt F) ((c : Thread nD τ).loc main_v0))

open Classical in
/-- The padded layout after the copies: the rows the table names hold the tokens, the others are as they were. -/
def routed : Buf (Elt F) ((c : Thread nD τ).loc main_v0) := fun (i : S81920x1024.Idx) =>
  if h : ∃ t, (w t).toNat = (i 0).val then X (tokIdx h.choose i) else V0 i

include hinj in
theorem routed_hit (t : Fin NT) (i : S81920x1024.Idx) (h : (w t).toNat = (i 0).val) :
    routed c w X V0 i = X (tokIdx t i) := by
  have hex : ∃ t, (w t).toNat = (i 0).val := ⟨t, h⟩
  unfold routed
  rw [dif_pos hex]
  have : hex.choose = t := hinj (hex.choose_spec.trans h.symm)
  exact congrArg (fun u => X (tokIdx u i)) this

theorem routed_miss (i : S81920x1024.Idx) (h : ∀ t, (w t).toNat ≠ (i 0).val) : routed c w X V0 i = V0 i := by
  unfold routed
  rw [dif_neg (fun ⟨t, ht⟩ => h t ht)]

include hinj in
/-- Every copy leaves the final contents on its row. -/
theorem lands : Lands c w hw X V0 (routed c w X V0) := by
  intro t i hi
  obtain ⟨y, -, rfl⟩ := Finset.mem_map.mp hi
  refine (View.write_emb_of_mem _ _ (Finset.mem_univ y)).trans ?_
  have e := slotRow_emb (w t).toNat (hw t) y
  have e' := tokRow_emb (t.val / 2) (tok_lt t) y
  refine Eq.trans ?_ (routed_hit c w hinj X V0 t _ e.1.symm).symm
  show X _ = X _
  refine congrArg X (funext fun a => ?_)
  match a with
  | ⟨0, _⟩ => exact Fin.ext e'.1
  | ⟨1, _⟩ => exact Fin.ext (e'.2.trans e.2.symm)

/-- The elements the copies write. -/
@[irreducible] def hitSet : Finset S81920x1024.Idx :=
  (Finset.univ : Finset (Fin NT)).biUnion fun t => ((slotRow (w t).toNat (hw t)).view.set : Finset S81920x1024.Idx)

theorem mem_hitSet (t : Fin NT) (i : S81920x1024.Idx) (h : (w t).toNat = (i 0).val) : i ∈ hitSet w hw := by
  have hm : i ∈ ((slotRow (w t).toNat (hw t)).view.set : Finset S81920x1024.Idx) := (mem_slotRow _ _ i).mpr h.symm
  generalize hu : (Finset.univ : Finset (Fin NT)) = U
  have ht : t ∈ U := hu ▸ Finset.mem_univ t
  unfold hitSet
  rw [hu]
  exact Finset.mem_biUnion.mpr ⟨t, ht, hm⟩

/-- What no copy needs of the tokens: the last read share, and each token of the share off the row its copy reads. -/
def spare : sProp 𝕄 :=
  iprop((((c : Thread nD τ).loc main_arg1) ↦{Transfers.shareDrop fullShare NT} X)
    ∗ bigSep (Finset.univ : Finset (Fin NT)) fun t =>
        ((c : Thread nD τ).loc main_arg1) ↦[Finset.univ \ (tokRow (t.val / 2) (tok_lt t)).view.set]{Transfers.shareTokN fullShare t.val} X)

include hinj in
theorem rows_disjoint (t t' : Fin NT) (h : t ≠ t') :
    Disjoint ((slotRow (w t).toNat (hw t)).view.set : Finset S81920x1024.Idx) ((slotRow (w t').toNat (hw t')).view.set : Finset S81920x1024.Idx) := by
  refine Finset.disjoint_left.mpr fun i hi hi' => ?_
  exact h (hinj (((mem_slotRow _ _ i).mp hi).symm.trans ((mem_slotRow _ _ i).mp hi')))

include hinj in
/-- The padded layout cut into the copies' rows and the rest. -/
theorem split_rows (V : Buf (Elt F) ((c : Thread nD τ).loc main_v0)) :
    ((((c : Thread nD τ).loc main_v0) ↦{fullShare} V : sProp 𝕄)) ⊣⊢ iprop(
      (bigSep (Finset.univ : Finset (Fin NT)) fun t => ((c : Thread nD τ).loc main_v0) ↦[(slotRow (w t).toNat (hw t)).view.set]{fullShare} V)
      ∗ (((c : Thread nD τ).loc main_v0) ↦[Finset.univ \ (hitSet w hw : Finset (Idx ((c : Thread nD τ).loc main_v0)))]{fullShare} V)) := by
  have h1 := pointsTo_biUnion (Val := Elt F) (Ix := Unit) (Name := ℕ) (U := Pipeline.UD sig nD τ) (Lvl := ℕ) (ℓ := (c : Thread nD τ).loc main_v0) (q := fullShare) (f := V)
    (Finset.univ : Finset (Fin NT)) (fun t => (slotRow (w t).toNat (hw t)).view.set) (fun t _ t' _ h => rows_disjoint w hw hinj t t' h)
  rw [← h1]
  unfold hitSet
  exact pointsTo_split_subset (Finset.subset_univ _)

/-- The tokens cut into a read token for every copy and the rest. -/
theorem split_toks :
    ((((c : Thread nD τ).loc main_arg1) ↦{fullShare} X : sProp 𝕄)) ⊣⊢ iprop(
      (bigSep (Finset.univ : Finset (Fin NT)) fun t =>
        ((c : Thread nD τ).loc main_arg1) ↦[(tokRow (t.val / 2) (tok_lt t)).view.set]{Transfers.shareTokN fullShare t.val} X)
      ∗ spare c X) := by
  have hsep : (bigSep (Finset.range NT) (fun i => ((c : Thread nD τ).loc main_arg1) ↦{Transfers.shareTokN fullShare i} X) : sProp 𝕄)
      = iprop((bigSep (Finset.univ : Finset (Fin NT)) fun t =>
          ((c : Thread nD τ).loc main_arg1) ↦[(tokRow (t.val / 2) (tok_lt t)).view.set]{Transfers.shareTokN fullShare t.val} X)
        ∗ bigSep (Finset.univ : Finset (Fin NT)) fun t =>
          ((c : Thread nD τ).loc main_arg1) ↦[Finset.univ \ (tokRow (t.val / 2) (tok_lt t)).view.set]{Transfers.shareTokN fullShare t.val} X) := by
    refine Eq.trans ?_ (bigSep_sep _ _ _)
    refine Eq.trans (Ring.bigSep_rangeSet_eq_range (NB := NT) (lo := 0) (hi := NT)
      (Φ := fun t : Fin NT => (((c : Thread nD τ).loc main_arg1) ↦{Transfers.shareTokN fullShare t.val} X : sProp 𝕄)) le_rfl _
      (fun k hk => by
        show _ = (((c : Thread nD τ).loc main_arg1) ↦{Transfers.shareTokN fullShare (0 + k)} X : sProp 𝕄)
        rw [Nat.zero_add])).symm ?_
    rw [Ring.rangeSet_univ]
    refine bigSep_congr fun t _ => ?_
    have h := pointsTo_split_subset (Val := Elt F) (Ix := Unit) (Name := ℕ) (U := Pipeline.UD sig nD τ) (Lvl := ℕ) (ℓ := (c : Thread nD τ).loc main_arg1) (q := Transfers.shareTokN fullShare t.val) (f := X)
      (Finset.subset_univ ((tokRow (t.val / 2) (tok_lt t)).view.set : Finset S32768x1024.Idx))
    exact Entails.antisymm h.1 h.2
  have h0 := Transfers.pointsTo_toks_range (Val := Elt F) (Ix := Unit) (Name := ℕ) (U := Pipeline.UD sig nD τ) (Lvl := ℕ) (ℓ := (c : Thread nD τ).loc main_arg1) (S := Finset.univ) (f := X) fullShare NT
  rw [hsep] at h0
  refine ⟨h0.1.trans ?_, BIBase.Entails.trans ?_ h0.2⟩
  · unfold spare
    iintro ⟨H0, H1, H2⟩
    isplitl [H1]; · iexact H1
    isplitl [H0]; · iexact H0
    iexact H2
  · unfold spare
    iintro ⟨H1, H0, H2⟩
    isplitl [H0]; · iexact H0
    isplitl [H1]; · iexact H1
    iexact H2

include hinj in
/-- Both arrays cut into the copies' pieces and the rest. -/
theorem split_pieces (V : Buf (Elt F) ((c : Thread nD τ).loc main_v0)) :
    (iprop((((c : Thread nD τ).loc main_arg1) ↦{fullShare} X) ∗ (((c : Thread nD τ).loc main_v0) ↦{fullShare} V)) : sProp 𝕄) ⊣⊢ iprop(
      bigSep (Finset.univ : Finset (Fin NT)) (piece c w hw X V) ∗ spare c X
      ∗ (((c : Thread nD τ).loc main_v0) ↦[Finset.univ \ (hitSet w hw : Finset (Idx ((c : Thread nD τ).loc main_v0)))]{fullShare} V)) := by
  have hp : (bigSep (Finset.univ : Finset (Fin NT)) (piece c w hw X V) : sProp 𝕄)
      = iprop((bigSep (Finset.univ : Finset (Fin NT)) fun t => ((c : Thread nD τ).loc main_v0) ↦[(slotRow (w t).toNat (hw t)).view.set]{fullShare} V)
        ∗ (bigSep (Finset.univ : Finset (Fin NT)) fun t =>
          ((c : Thread nD τ).loc main_arg1) ↦[(tokRow (t.val / 2) (tok_lt t)).view.set]{Transfers.shareTokN fullShare t.val} X)) :=
    (bigSep_congr fun t _ => rfl).trans (bigSep_sep _ _ _)
  rw [hp]
  have h1 := split_rows c w hw hinj V
  have h2 := split_toks c X
  constructor
  · iintro ⟨H1, H2⟩
    ihave H2' := h1.1 $$ H2
    ihave H1' := h2.1 $$ H1
    icases H1' with ⟨Ha, Hb⟩
    icases H2' with ⟨Hc, Hd⟩
    isplitl [Ha Hc]
    · isplitl [Hc]; · iexact Hc
      iexact Ha
    isplitl [Hb]; · iexact Hb
    iexact Hd
  · iintro ⟨⟨Hc, Ha⟩, Hb, Hd⟩
    isplitl [Ha Hb]
    · iapply h2.2
      isplitl [Ha]; · iexact Ha
      iexact Hb
    · iapply h1.2
      isplitl [Hc]; · iexact Hc
      iexact Hd

/-- Contents that agree off a set are the same there. -/
theorem off_congr (ℓ : Loc nD τ sig) (I : Finset (Idx ℓ)) (f g : Buf (Elt F) ℓ) (h : ∀ i, i ∉ I → f i = g i) :
    ((ℓ ↦[Finset.univ \ I]{fullShare} f : sProp 𝕄)) = (ℓ ↦[Finset.univ \ I]{fullShare} g) :=
  pointsTo_congr fun i hi => h i (Finset.mem_sdiff.mp hi).2

theorem off_rows (S : Finset S81920x1024.Idx)
    (hS : ∀ (t : Fin NT) (i : S81920x1024.Idx), (w t).toNat = (i 0).val → i ∈ S) :
    ((((c : Thread nD τ).loc main_v0) ↦[Finset.univ \ (S : Finset (Idx ((c : Thread nD τ).loc main_v0)))]{fullShare} V0 : sProp 𝕄))
    = (((c : Thread nD τ).loc main_v0) ↦[Finset.univ \ (S : Finset (Idx ((c : Thread nD τ).loc main_v0)))]{fullShare} routed c w X V0) :=
  off_congr ((c : Thread nD τ).loc main_v0) S V0 (routed c w X V0) fun i hi => (routed_miss c w X V0 i fun t ht => hi (hS t i ht)).symm

/-- Off the rows the copies write, the layout is as it was. -/
theorem rest_eq : ((((c : Thread nD τ).loc main_v0) ↦[Finset.univ \ (hitSet w hw : Finset (Idx ((c : Thread nD τ).loc main_v0)))]{fullShare} V0 : sProp 𝕄))
    = (((c : Thread nD τ).loc main_v0) ↦[Finset.univ \ (hitSet w hw : Finset (Idx ((c : Thread nD τ).loc main_v0)))]{fullShare} routed c w X V0) := by
  apply off_rows
  intro t i
  exact mem_hitSet w hw t i

end Rows

end Cert.KernelIdeal.Dispatch

end
-- ==== Proof.DispatchRun.lean ====
module

public import proofs.«01_k».proof.Proof.DispatchSplit
public import proofs.«01_k».proof.Proof.Gen.KernelIdeal.Frame

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! The whole launch: the body's triples at the 64 points put under the pipeline, for a table whose words are distinct rows. -/

variable (m : (ℓ : Loc nD τ sig) → Buf (Elt F) ℓ) (ρ : Dev nD → PrngReg)

/-- The index in the table of the word of copy `t`: choice `t % 2` of token `t / 2`. -/
def tabIdx (t : Fin NT) : S2x32768.Idx := fun a => match a with
  | ⟨0, _⟩ => (⟨t.val % 2, Nat.mod_lt _ (by decide)⟩ : Fin 2)
  | ⟨1, _⟩ => (⟨t.val / 2, tok_lt t⟩ : Fin 32768)

/-- The word of copy `t`. -/
def word (c : Dev nD) (t : Fin NT) : BitVec 32 := m ((c : Thread nD τ).loc main_arg0) (tabIdx t)

/-- The hypothesis on the table: every word is a row, and no two are the same. -/
structure Distinct : Prop where
  range : ∀ c t, (word m c t).toNat < 81920
  inj : ∀ c, Function.Injective fun t => (word m c t).toNat

variable (hd : Distinct m)

theorem coord_val : ∀ t : Fin grid0.N, (grid0.coords t 0).val = t.val := by decide

abbrev osem0 : Fin 1 → SemLoc sig := fun j => (![SemLoc.dma 2] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl

/-- The tokens, which the body's copies read. -/
def H0 : Finset (Ref sig .tc) := {main_arg1}
theorem H0_sub : H0 ⊆ Pipeline.restRefs sig spec0 := by decide
/-- The padded layout, which they write. -/
def R0 : Finset (Ref sig .tc) := {main_v0}
theorem R0_sub : R0 ⊆ Pipeline.restRefs sig spec0 \ H0 := by decide

/-- The contents after the region: the padded layout with the tokens on its rows. -/
def after0 (c : Dev nD) (b : Ref sig .tc) : Buf (Elt F) ((c : Thread nD τ).loc b) :=
  if h : b = main_v0 then h ▸ routed c (word m c) (V m c main_arg1) (V m c main_v0) else V m c b

theorem after0_v0 (c : Dev nD) : after0 m c main_v0 = routed c (word m c) (V m c main_arg1) (V m c main_v0) := by
  unfold after0; rw [dif_pos rfl]

theorem hbmPts0_eq (c : Dev nD) :
    (bigSep H0 (fun b => ((c : Thread nD τ).loc b) ↦{fullShare} V m c b) : sProp 𝕄)
      = iprop(((c : Thread nD τ).loc main_arg1) ↦{fullShare} V m c main_arg1) := by
  rw [BI.bigSep_eq_bigSepL_of_eq [main_arg1] (by decide) (by decide)]; rfl
theorem routedPts0_eq (c : Dev nD) (W : (b : Ref sig .tc) → Buf (Elt F) ((c : Thread nD τ).loc b)) :
    (Pipeline.routed R0 c W : sProp 𝕄) = iprop(((c : Thread nD τ).loc main_v0) ↦{fullShare} W main_v0) := by
  unfold Pipeline.routed
  rw [BI.bigSep_eq_bigSepL_of_eq [main_v0] (by decide) (by decide)]; rfl

theorem ends_eq (c : Dev nD) (W : (c : Dev nD) → (b : Ref sig .tc) → Buf (Elt F) ((c : Thread nD τ).loc b)) :
    (Pipeline.ΦDRG osem0 spec0 H0 R0 (V m) W c : sProp 𝕄)
      = iprop(emp ∗ (∃ r, prngReg c r) ∗ semVal ((c : Thread nD τ), SemLoc.dma 2) 0
          ∗ (((c : Thread nD τ).loc main_arg1) ↦{fullShare} V m c main_arg1)
          ∗ (((c : Thread nD τ).loc main_v0) ↦{fullShare} W c main_v0)) := by
  rw [Pipeline.ΦDRG_eq, scopedRest0_eq, ownSems00_eq, hbmPts0_eq, routedPts0_eq]; rfl

/-! ## The proof data -/

abbrev pieces0 (c : Dev nD) (W : Buf (Elt F) ((c : Thread nD τ).loc main_v0)) : Fin NT → sProp 𝕄 :=
  piece c (word m c) (hd.range c) (V m c main_arg1) W

/-- What the body never touches. -/
def idle (c : Dev nD) : sProp 𝕄 :=
  iprop((∃ r, prngReg c r) ∗ spare c (V m c main_arg1)
    ∗ (((c : Thread nD τ).loc main_v0) ↦[Finset.univ \ (hitSet (word m c) (hd.range c) : Finset (Idx ((c : Thread nD τ).loc main_v0)))]{fullShare} V m c main_v0))

/-- What the body carries from point to point. -/
def carry (c : Dev nD) (p : ℕ) : sProp 𝕄 :=
  if p = 0 then iprop(semVal ((c : Thread nD τ), SemLoc.dma 2) 0 ∗ bigSep Finset.univ (pieces0 m hd c (V m c main_v0)))
  else if p = 64 then iprop(semVal ((c : Thread nD τ), SemLoc.dma 2) 0 ∗ bigSep Finset.univ (pieces0 m hd c (after0 m c main_v0)))
  else iprop(batch c (word m c) (hd.range c) (V m c main_arg1) (after0 m c main_v0) (1024 * p) (NN * 1024 * (p - 1))
    ∗ bigSep (Ring.rangeSet NT (1024 * p) NT) (pieces0 m hd c (V m c main_v0)))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := iprop(carry m hd c t.val ∗ idle m hd c)
  q _ := fullShare
  owed _ := 0

theorem A_eq (c : Dev nD) (w : Fin cfg0.W) : (dats m hd 0 c).A w = V m c (Pipeline.arrRef spec0 w) := by
  dsimp only [dats]
theorem after0_0 (c : Dev nD) (t : Fin cfg0.N) : (dats m hd 0 c).after 0 t = iblk m c 0 t := by dsimp only [dats]
theorem Phi_eq (c : Dev nD) (t : Fin (cfg0.N + 1)) : (dats m hd 0 c).Φ t = iprop(carry m hd c t.val ∗ idle m hd c) := by dsimp only [dats]

theorem before0_0 (c : Dev nD) (t : Fin cfg0.N) (d) : (dats m hd 0 c).before 0 t d = iblk m c 0 t :=
  ((dats m hd 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem transform_at (i : grid0.Coords) : cc0_transform_0 i 0 = 0 ∧ cc0_transform_0 i 1 = (i 0).val := by
  refine ⟨rfl, ?_⟩
  show (BitVec.ofNat 32 (i 0).val).toNat = (i 0).val
  have h : (i 0).val < 64 := (i 0).isLt
  rw [BitVec.toNat_ofNat, Nat.mod_eq_of_lt (by omega)]

/-- The table's block at a point, element by element. -/
theorem iblk_at (c : Dev nD) (t : Fin cfg0.N) (y : S2x512.Idx) (j : S2x32768.Idx)
    (h0 : (j 0).val = (y 0).val) (h1 : (j 1).val = 512 * (grid0.coords t 0).val + (y 1).val) :
    iblk m c 0 t y = V m c main_arg0 j := by
  unfold iblk
  refine (View.read_apply _ _).trans ?_
  show V m c main_arg0 _ = _
  refine congrArg (V m c main_arg0) (funext fun a => ?_)
  match a with
  | ⟨0, _⟩ =>
    refine Fin.ext (Eq.trans ?_ h0.symm)
    show cc0_transform_0 (grid0.coords t) 0 * 2 + 1 * (y 0).val = _
    rw [(transform_at (grid0.coords t)).1]
    omega
  | ⟨1, _⟩ =>
    refine Fin.ext (Eq.trans ?_ h1.symm)
    show cc0_transform_0 (grid0.coords t) 1 * 512 + 1 * (y 1).val = _
    rw [(transform_at (grid0.coords t)).2]
    omega

theorem V_main_arg0' (c : Dev nD) (j : S2x32768.Idx) : V m c main_arg0 j = m ((c : Thread nD τ).loc main_arg0) j :=
  congrFun (V_main_arg0 m c) j

/-- Where the one element of a single word's rectangle lies. -/
theorem single_emb (o : Fin 2 → ℕ) (inb : ∀ a, o a + S1x1.size a ≤ S2x512.size a) (x : S1x1.Idx) (a : Fin 2) :
    (((Rect.unit (s := S2x512) o S1x1.size inb).emb x : S2x512.Idx) a).val = o a := by
  have hx : (x a).val = 0 := by
    have h : (x a).val < S1x1.size a := (x a).isLt
    have h1 : S1x1.size a = 1 := by fin_cases a <;> rfl
    omega
  show o a + 1 * (x a).val = o a
  omega

/-- At a point, the table's block holds the words of the point's copies. -/
theorem holds_at (c : Dev nD) (t : Fin cfg0.N) (arg1 : Memref sig .tc .smem S2x512 .i32)
    (f : Buf (Elt F) (arg1.view.loc (c : Thread nD τ))) (hread : arg1.view.read (Elt F) f = iblk m c 0 t) :
    Holds c (word m c) (grid0.coords t) arg1 f := by
  have hrd : ∀ (r : Rect S2x512) (x : r.shape.Idx), (arg1.access r).read (Elt F) f x = iblk m c 0 t (r.emb x) := fun r x => by
    rw [← hread]; rfl
  constructor
  · intro k ht
    have e0 := (single_emb (k0_off1 k) (k0_off1_inb k) (Shape.Idx.first (numel1_S1x1.symm ▸ Nat.one_pos)) 0).trans (congrFun (k0_off1_eq k) 0)
    have e1 := (single_emb (k0_off1 k) (k0_off1_inb k) (Shape.Idx.first (numel1_S1x1.symm ▸ Nat.one_pos)) 1).trans (congrFun (k0_off1_eq k) 1)
    refine (hrd _ _).trans ((iblk_at m c t _ (tabIdx ⟨1024 * (grid0.coords t 0).val + 2 * k.val, ht⟩) (Eq.trans ?_ e0.symm) ?_).trans (V_main_arg0' m c _))
    · show (1024 * (grid0.coords t 0).val + 2 * k.val) % 2 = 0
      omega
    · refine Eq.trans ?_ (congrArg (fun z => 512 * (grid0.coords t 0).val + z) e1.symm)
      show (1024 * (grid0.coords t 0).val + 2 * k.val) / 2 = 512 * (grid0.coords t 0).val + k.val
      omega
  · intro k ht
    have e0 := (single_emb (k0_off4 k) (k0_off4_inb k) (Shape.Idx.first (numel1_S1x1.symm ▸ Nat.one_pos)) 0).trans (congrFun (k0_off4_eq k) 0)
    have e1 := (single_emb (k0_off4 k) (k0_off4_inb k) (Shape.Idx.first (numel1_S1x1.symm ▸ Nat.one_pos)) 1).trans (congrFun (k0_off4_eq k) 1)
    refine (hrd _ _).trans ((iblk_at m c t _ (tabIdx ⟨1024 * (grid0.coords t 0).val + 2 * k.val + 1, ht⟩) (Eq.trans ?_ e0.symm) ?_).trans (V_main_arg0' m c _))
    · show (1024 * (grid0.coords t 0).val + 2 * k.val + 1) % 2 = 1
      omega
    · refine Eq.trans ?_ (congrArg (fun z => 512 * (grid0.coords t 0).val + z) e1.symm)
      show (1024 * (grid0.coords t 0).val + 2 * k.val + 1) / 2 = 512 * (grid0.coords t 0).val + k.val
      omega

abbrev ms0 (t : Fin cfg0.N) := win0_0.stage (cfg0.slots t 0)
abbrev hs0 (t : Fin cfg0.N) := hstage0_0 ((cfg0.slots t 0).cast nbuf0_0)

def bodyPre (c : Dev nD) (t : Fin cfg0.N) : sProp 𝕄 :=
  iprop((dats m hd 0 c).Φ t.castSucc ∗ (dats m hd 0 c).owesAt () t.castSucc
    ∗ (∃ d, owns (c : Thread nD τ) (ms0 t) fullShare ((dats m hd 0 c).before 0 t d)))
def bodyPost (c : Dev nD) (t : Fin cfg0.N) : sProp 𝕄 :=
  iprop((dats m hd 0 c).Φ t.succ ∗ (dats m hd 0 c).owesAt () t.succ
    ∗ owns (c : Thread nD τ) (ms0 t) fullShare ((dats m hd 0 c).after 0 t))

theorem carry_zero (c : Dev nD) : carry m hd c 0
    = iprop(semVal ((c : Thread nD τ), SemLoc.dma 2) 0 ∗ bigSep Finset.univ (pieces0 m hd c (V m c main_v0))) := by
  unfold carry; rw [if_pos rfl]
theorem carry_last (c : Dev nD) : carry m hd c 64
    = iprop(semVal ((c : Thread nD τ), SemLoc.dma 2) 0 ∗ bigSep Finset.univ (pieces0 m hd c (after0 m c main_v0))) := by
  unfold carry; rw [if_neg (by decide), if_pos rfl]
theorem carry_mid (c : Dev nD) (p : ℕ) (h0 : 0 < p) (h1 : p < 64) : carry m hd c p
    = iprop(batch c (word m c) (hd.range c) (V m c main_arg1) (after0 m c main_v0) (1024 * p) (NN * 1024 * (p - 1))
        ∗ bigSep (Ring.rangeSet NT (1024 * p) NT) (pieces0 m hd c (V m c main_v0))) := by
  unfold carry; rw [if_neg (by omega), if_neg (by omega)]

theorem lands0 (c : Dev nD) : Lands c (word m c) (hd.range c) (V m c main_arg1) (V m c main_v0) (after0 m c main_v0) := by
  rw [after0_v0]; exact lands c (word m c) (hd.range c) (hd.inj c) _ _

/-- The body at a point, on what the pipeline hands it: from what is carried to the point to what is carried on. -/
theorem step (c : Dev nD) (t : Fin cfg0.N) (arg1 : Memref sig .tc .smem S2x512 .i32) (harg1 : arg1.IsWhole)
    (f : Buf (Elt F) (arg1.view.loc (c : Thread nD τ))) (hread : arg1.view.read (Elt F) f = iblk m c 0 t) :
    iprop(carry m hd c t.val ∗ (∃ W, owes (c : Thread nD τ) 0 W) ∗ (arg1.view.loc (c : Thread nD τ) ↦{fullShare} f)) ⊢
     wp frame (wpE (defs₀ (F := F)) Variants.none (c : Thread nD τ) none) Set.univ
      (cc0_moe_dispatch (F := F) (grid0.coords t) arg1 harg1 (Memref.whole main_arg1) (Memref.isWhole_whole _) (Memref.whole main_v0) (Memref.isWhole_whole _) (Memref.whole main_v0) (Memref.isWhole_whole _) cc0_scratch0)
      (fun _ => iprop(carry m hd c (t.val + 1) ∗ (∃ W, owes (c : Thread nD τ) 0 W) ∗ (arg1.view.loc (c : Thread nD τ) ↦{fullShare} f))) := by
  have hN : t.val < 64 := t.isLt.trans_eq N_0
  have hv := coord_val t
  have hh := holds_at m c t arg1 f hread
  generalize grid0.coords t = i at hv hh ⊢
  rw [← hv] at hN ⊢
  clear hread hv
  rcases Nat.lt_or_ge 0 (i 0).val with h0 | h0
  · rcases Nat.lt_or_ge (i 0).val 63 with h1 | h1
    · rw [carry_mid m hd c (i 0).val h0 hN, carry_mid m hd c ((i 0).val + 1) (by omega) (by omega)]
      refine BIBase.Entails.trans ?_ ((body_mid c (word m c) (hd.range c) (V m c main_arg1) (V m c main_v0) (after0 m c main_v0) (lands0 m hd c) trivial i ⟨h0, h1⟩ arg1 harg1 f hh).trans
        (Idealize.SL.Sem.wp_mono _ _ _ fun _ => ?_))
      · iintro ⟨⟨HB, HP⟩, HO, HS⟩
        isplitl [HO]; · iexact HO
        isplitl [HB]; · iexact HB
        isplitl [HS]; · iexact HS
        iexact HP
      · rw [Nat.add_sub_cancel]
        iintro ⟨HO, HB, HS, HP⟩
        isplitl [HB HP]
        · isplitl [HB]; · iexact HB
          iexact HP
        isplitl [HO]; · iexact HO
        iexact HS
    · have h63 : (i 0).val = 63 := by omega
      rw [carry_mid m hd c (i 0).val h0 hN, show (i 0).val + 1 = 64 from by omega, carry_last m hd c]
      refine BIBase.Entails.trans ?_ ((body_last c (word m c) (hd.range c) (V m c main_arg1) (V m c main_v0) (after0 m c main_v0) (lands0 m hd c) trivial i h63 arg1 harg1 f hh).trans
        (Idealize.SL.Sem.wp_mono _ _ _ fun _ => ?_))
      · iintro ⟨⟨HB, HP⟩, HO, HS⟩
        isplitl [HO]; · iexact HO
        isplitl [HB]; · iexact HB
        isplitl [HS]; · iexact HS
        iexact HP
      · rw [show 1024 * ((i 0).val + 1) = NT from by rw [h63], Ring.rangeSet_empty le_rfl, bigSep_empty]
        iintro ⟨HO, ⟨HP, HC⟩, HS, -⟩
        isplitl [HC HP]
        · isplitl [HC]; · iexact HC
          iexact HP
        isplitl [HO]; · iexact HO
        iexact HS
  · have h0' : (i 0).val = 0 := by omega
    rw [h0', carry_zero m hd c, carry_mid m hd c (0 + 1) (by omega) (by omega)]
    iintro ⟨⟨HC, HP⟩, HO, HS⟩
    imod (Transfers.batch_alloc' (Lvl := ℕ) (countersEmb (U := Pipeline.UD sig nD τ)) (c : Thread nD τ) () NN
      (pieces0 m hd c (after0 m c main_v0)) (sm := SemLoc.dma 2) (E := Set.univ)) $$ HC with HB
    have hb := (body_first c (word m c) (hd.range c) (V m c main_arg1) (V m c main_v0) (after0 m c main_v0) (lands0 m hd c) i h0' arg1 harg1 f hh).trans
        (Idealize.SL.Sem.wp_mono _ _ _ (Q' := (fun _ => iprop(iprop(batch c (word m c) (hd.range c) (V m c main_arg1) (after0 m c main_v0) (1024 * (0 + 1)) (NN * 1024 * (0 + 1 - 1))
        ∗ bigSep (Ring.rangeSet NT (1024 * (0 + 1)) NT) (pieces0 m hd c (V m c main_v0))) ∗ (∃ W, owes (c : Thread nD τ) 0 W) ∗ (arg1.view.loc (c : Thread nD τ) ↦{fullShare} f)))) fun _ => by
          rw [h0']
          iintro ⟨HO, HB, HS, HP⟩
          isplitl [HB HP]
          · isplitl [HB]; · iexact HB
            iexact HP
          isplitl [HO]; · iexact HO
          iexact HS)
    rw [h0', Nat.mul_zero, Ring.rangeSet_univ] at hb
    iapply hb
    isplitl [HO]; · iexact HO
    isplitl [HB]; · iexact HB
    isplitl [HS]; · iexact HS
    iexact HP

theorem sound_body (c : Dev nD) (t : Fin cfg0.N) :
    bodyPre m hd c t ⊢ wp frame (wpE (defs₀ (F := F)) Variants.none (c : Thread nD τ) none) Set.univ (bodyAt0 t) (fun _ => bodyPost m hd c t) := by
  unfold bodyPre bodyPost bodyAt0
  rw [after0_0, Phi_eq, Phi_eq]
  unfold Dat.owesAt Pipeline.owesWithin
  rw [show (dats m hd 0 c).owed t.castSucc = 0 from rfl, show (dats m hd 0 c).owed t.succ = 0 from rfl]
  rw [show t.castSucc.val = t.val from rfl, show t.succ.val = t.val + 1 from rfl]
  unfold owns
  iintro ⟨⟨HC, HI⟩, ⟨%W, -, HW⟩, ⟨%d0, %f0, %hread, H0⟩⟩
  rw [before0_0] at hread
  have hs := step m hd c t (ms0 t) (hs0 t) f0 hread
  rw [show (ms0 t).view.set = Finset.univ from (hs0 t).set_eq_univ]
  iapply (Idealize.SL.Sem.wp_wand_r frame (wpE (defs₀ (F := F)) Variants.none (c : Thread nD τ) none) Set.univ
    (Q := fun _ => iprop(carry m hd c (t.val + 1) ∗ (∃ W, owes (c : Thread nD τ) 0 W) ∗ ((ms0 t).view.loc (c : Thread nD τ) ↦{fullShare} f0))))
  isplitl [HC HW H0]
  · iapply hs
    isplitl [HC]; · iexact HC
    isplitl [HW]; · iexists W; iexact HW
    iexact H0
  · iintro %a ⟨HC, ⟨%W', HW'⟩, H0⟩
    isplitl [HC HI]
    · isplitl [HC]; · iexact HC
      iexact HI
    isplitl [HW']
    · iexists W'; isplitr; · ipureintro; exact fun _ _ => Or.inl trivial
      iexact HW'
    iexists f0; isplitr
    · ipureintro; exact hread
    iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hd 0 c) (defs₀ (F := F)) Variants.none () Set.univ := fun t => by
  rw [bigSep_W0, bigSep_W0, defs₀_row]
  exact triple_restated (sound_body m hd c t) rfl .rfl fun _ => .rfl

/-! ## The run -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the region hands the invariant is what is carried to the first point. -/
theorem enter (c : Dev nD) : (Pipeline.ΦDRG osem0 spec0 H0 R0 (V m) (V m) c : sProp 𝕄) ⊢ (dats m hd 0 c).Φ 0 := by
  rw [ends_eq, Phi_eq, show (0 : Fin (cfg0.N + 1)).val = 0 from rfl, carry_zero]
  have hs := (split_pieces c (word m c) (hd.range c) (hd.inj c) (V m c main_arg1) (V m c main_v0)).1
  unfold idle
  iintro ⟨-, Hg, HC, HX, HV⟩
  ihave HH := hs $$ [HX HV]
  · isplitl [HX]; · iexact HX
    iexact HV
  icases HH with ⟨HP, HS, HR⟩
  isplitl [HC HP]
  · isplitl [HC]; · iexact HC
    iexact HP
  isplitl [Hg]; · iexact Hg
  isplitl [HS]; · iexact HS
  iexact HR

/-- What is carried past the last point is what the region takes back, the padded layout routed. -/
theorem leave (c : Dev nD) : (dats m hd 0 c).Φ (Fin.last cfg0.N) ⊢ (Pipeline.ΦDRG osem0 spec0 H0 R0 (V m) (after0 m) c : sProp 𝕄) := by
  rw [ends_eq, Phi_eq, show (Fin.last cfg0.N).val = 64 from N_0, carry_last]
  have hs := (split_pieces c (word m c) (hd.range c) (hd.inj c) (V m c main_arg1) (after0 m c main_v0)).2
  unfold idle
  rw [rest_eq c (word m c) (hd.range c) (V m c main_arg1) (V m c main_v0), ← after0_v0]
  iintro ⟨⟨HC, HP⟩, Hg, HS, HR⟩
  isplitr; · iempintro
  isplitl [Hg]; · iexact Hg
  isplitl [HC]; · iexact HC
  iapply hs
  isplitl [HP]; · iexact HP
  isplitl [HS]; · iexact HS
  iexact HR

set_option backward.isDefEq.respectTransparency.types false in
/-- The run: it ends, with the arguments as they were and the padded layout routed. -/
theorem run_main : θ_run defs (onTc (τ := τ) (main (F := F))) (s₀ m ρ)
    (fun r => Pipeline.FramePostRG cfgs (dats m hd) 0 R0 (V m) (after0 m) r ∧ r.2.sem = fun _ => 0) :=
  Pipeline.θ_run_frame_dmaRG (Q' := _) cfgs (dats m hd) (0 : Fin 1) launch0 osem0 defs₀ Variants.none ownSemFacts0 H0 R0 H0_sub R0_sub m ρ main
    (hbody := fun c => (body_obligation m hd c).loose) (hshare := fun c => (dats m hd 0 c).share_full fun _ => rfl)
    (howed := fun _ _ => rfl) (V := V m) (hmain := hmain m Variants.none) (hA := A_eq m hd)
    (G := after0 m) (hin := enter m hd) (hout := leave m hd)

include hd in
/-- The arguments and the result after the run. -/
theorem run_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = after0 m c main_v0)
      ∧ r.2.sem = fun _ => 0) :=
  (θ_run defs _ _).mono (fun _ h => ⟨fun c => ⟨((h.1.1 c).1 0).trans (((dats m hd 0 c).arrAt_in 0 rfl _).trans ((A_eq m hd c 0).trans (V_main_arg0 m c))),
      ((h.1.1 c).2 main_arg1 (Finset.mem_sdiff.mpr ⟨Pipeline.mem_restRefs_of main_arg1 (by decide) (by decide), by decide⟩)).trans (V_main_arg1 m c),
      h.1.2 c main_v0 (by decide)⟩, h.2⟩) (run_main m ρ hd)

end Cert.KernelIdeal.Dispatch

end
-- ==== Proof.DispatchTable.lean ====
module

public import proofs.«01_k».proof.Pre_slots_distinct
public import proofs.«01_k».proof.Proof.DispatchRun
public import Idealize.ShloMosaic.Lib.SortFacts
public import Idealize.ShloMosaic.Lib.WordCmp
public import Idealize.ShloMosaic.Lib.Routing.OpsOne
public import Idealize.ShloMosaic.Lib.Routing.OpsPair

@[expose] public section

noncomputable section

/-! The precondition read back: a table that passes it holds rows of the padded layout, no two the same. -/

namespace Cert.Pre_slots_distinct

open Idealize.ShloMosaic

theorem facts : Facts where
  shapeCasts_S2x32768_S65536 := by decide
  bcast_S_S2x32768 := by decide
  slices_S65536_S65535_1 := by decide
  slices_S65536_S65535_0 := by decide

end Cert.Pre_slots_distinct

namespace Cert.KernelIdeal.Dispatch

open Idealize.ShloMosaic Idealize.ShloMosaic.ValueIdx Idealize.ShloMosaic.Routing

theorem and_one : ∀ a b : BitVec 1, a &&& b = 1#1 → a = 1#1 ∧ b = 1#1 := by decide

/-- A word that passes both comparisons of the range check is below the bound. -/
theorem lt_of_checks (a : BitVec 32) (h0 : IntOp.cmpi .sge a 0#32 = 1#1) (h1 : IntOp.cmpi .slt a 81920#32 = 1#1) : a.toNat < 81920 := by
  have e0 : a.toNat < 2 ^ 31 := by
    rw [WordCmp.cmpi_sge_zero] at h0
    exact of_decide_eq_true ((StableHlo.Predicate.ofBool_eq_one_iff _).1 h0)
  exact (StableHlo.Predicate.slt_iff_toNat e0 (by decide)).1 h1

/-- A sequence that grows from each place to the next grows between any two places. -/
theorem lt_of_adjacent {n : ℕ} (s : Fin n → ℕ) (h : ∀ k k' : Fin n, k'.val = k.val + 1 → s k < s k') :
    ∀ (d : ℕ) (k k' : Fin n), k'.val = k.val + d + 1 → s k < s k'
  | 0, k, k', e => h k k' e
  | d + 1, k, k', e => by
    have hk' := k'.isLt
    exact (lt_of_adjacent s h d k ⟨k.val + d + 1, by omega⟩ rfl).trans (h _ k' (by show k'.val = k.val + d + 1 + 1; omega))

/-- A table of words below the bound whose sorted form grows, by signed comparison of neighbours, holds no word twice. -/
theorem injective_of_neighbours {n n1 : ℕ} (hn : n1 + 1 = n) (cmp : BitVec 32 → BitVec 32 → BitVec 1) (T : IVec (shape1 n) 32)
    (hlt : ∀ j, (T j).toNat < 81920) (h1 : (shape1 n).Slices ![1] (shape1 n1)) (h0 : (shape1 n).Slices ![0] (shape1 n1))
    (h : ∀ j : (shape1 n1).Idx, IntOp.cmpi .sgt (extractStridedSlice (shape1 n1) ![1] (Host.sort (shape1 n) 0 cmp T) h1 j)
      (extractStridedSlice (shape1 n1) ![0] (Host.sort (shape1 n) 0 cmp T) h0 j) = 1#1) :
    Function.Injective fun j => (T j).toNat := by
  have hs : ∀ j, (Host.sort (shape1 n) 0 cmp T j).toNat < 2 ^ 31 := fun j => by
    rw [Host.sort_rank1]
    exact (hlt _).trans (by decide)
  refine injective_toNat_of_sort_strict cmp T fun k k' hk => ?_
  refine lt_of_adjacent (fun k => (Host.sort (shape1 n) 0 cmp T (Shape.Idx.ofFin k)).toNat) (fun a b hab => ?_) (k'.val - k.val - 1) k k'
    (by have : k.val < k'.val := hk; omega)
  have hb := b.isLt
  have e := h (ix1 ⟨a.val, by omega⟩)
  rw [slice1 1 _ h1 ⟨a.val, by omega⟩ (by show 1 + a.val < n; omega), slice1 0 _ h0 ⟨a.val, by omega⟩ (by show 0 + a.val < n; omega)] at e
  have e' := (StableHlo.Predicate.sgt_iff_toNat (hs _) (hs _)).1 e
  have ia : (ix1 ⟨0 + a.val, by omega⟩ : (shape1 n).Idx) = Shape.Idx.ofFin a := by
    rw [ofFin_eq_ix1]; exact congrArg ix1 (Fin.ext (Nat.zero_add _))
  have ib : (ix1 ⟨1 + a.val, by omega⟩ : (shape1 n).Idx) = Shape.Idx.ofFin b := by
    rw [ofFin_eq_ix1]; exact congrArg ix1 (Fin.ext (by show 1 + a.val = b.val; omega))
  rw [← ia, ← ib]
  exact e'

/-- The two results of the precondition, all ones, as facts of the table. -/
theorem table_of_pre {F : FTy → Type} [FloatOps F] (T : IVec S2x32768 32) (X : FVec F S32768x1024 .f32)
    (h1 : (@Cert.Pre_slots_distinct.fn Cert.Pre_slots_distinct.facts F _ T X).1 = fun _ => 1#1)
    (h2 : (@Cert.Pre_slots_distinct.fn Cert.Pre_slots_distinct.facts F _ T X).2 = fun _ => 1#1) :
    (∀ t, (T (tabIdx t)).toNat < 81920) ∧ Function.Injective fun t => (T (tabIdx t)).toNat := by
  have hr : ∀ i, (T i).toNat < 81920 := fun i => by
    have e := and_one _ _ (congrFun h1 i)
    exact lt_of_checks _ e.1 e.2
  refine ⟨fun t => hr _, fun t t' e => ?_⟩
  have inj := injective_of_neighbours (n := 65536) (n1 := 65535) rfl Cert.Pre_slots_distinct.comparator_i32_d0
    (shapeCast (shape1 65536) T Cert.Pre_slots_distinct.facts.shapeCasts_S2x32768_S65536)
    (fun j => hr _) Cert.Pre_slots_distinct.facts.slices_S65536_S65535_1 Cert.Pre_slots_distinct.facts.slices_S65536_S65535_0
    (fun j => congrFun h2 j)
  have hp : ∀ t : Fin NT, (t.val % 2) * 32768 + t.val / 2 < 65536 := fun t => by have : t.val < 65536 := t.isLt; omega
  have hc : ∀ t : Fin NT, shapeCast (shape1 65536) T Cert.Pre_slots_distinct.facts.shapeCasts_S2x32768_S65536
      (ix1 ⟨(t.val % 2) * 32768 + t.val / 2, hp t⟩) = T (tabIdx t) := fun t => by
    refine (cast21 (a := 2) (b := 32768) T _ ⟨t.val % 2, Nat.mod_lt _ (by decide)⟩ ⟨t.val / 2, tok_lt t⟩ _ rfl).trans (congrArg T ?_)
    funext a
    match a with
    | ⟨0, _⟩ => rfl
    | ⟨1, _⟩ => rfl
  have e2 : (shapeCast (shape1 65536) T Cert.Pre_slots_distinct.facts.shapeCasts_S2x32768_S65536 (ix1 ⟨(t.val % 2) * 32768 + t.val / 2, hp t⟩)).toNat
      = (shapeCast (shape1 65536) T Cert.Pre_slots_distinct.facts.shapeCasts_S2x32768_S65536 (ix1 ⟨(t'.val % 2) * 32768 + t'.val / 2, hp t'⟩)).toNat := by
    rw [hc, hc]; exact e
  have e3 := congrArg Fin.val (congrFun (inj e2) 0)
  have e4 : (t.val % 2) * 32768 + t.val / 2 = (t'.val % 2) * 32768 + t'.val / 2 := e3
  have b1 : t.val < 65536 := t.isLt
  have b2 : t'.val < 65536 := t'.isLt
  exact Fin.ext (by omega)

end Cert.KernelIdeal.Dispatch

end
-- ==== Proof.DispatchValue.lean ====
module

public import proofs.«01_k».proof.Proof.DispatchTable
public import Idealize.ShloMosaic.Lib.ValueLayout
public import proofs.«01_k».proof.Proof.Gen.ReferenceIdeal.Run

@[expose] public section

noncomputable section

/-! The reference's scatter is the layout that the launch leaves: row `word t` of it is token `t / 2`, every other row zero. -/

namespace Cert.KernelIdeal.Dispatch

open Cert.KernelIdeal
open Idealize.ShloMosaic Idealize.ShloMosaic.TcCoe Idealize.ShloMosaic.ValueIdx Idealize.ShloMosaic.Routing

/-- Update `(n, j')` of `x.at[idx].set(rows)` lands at `(r, j)` exactly when the `n`-th index word, read signed, is `r`, and `j'` is `j`. -/
theorem lands_row {R C N : ℕ} (d : ScatterDims (shape2 R C) (shape2 N 1) (shape2 N C)) (huw : d.updateWindowDims = [1])
    (hiw : d.insertedWindowDims = [0]) (hsd : d.scatterDimsToOperandDims = [0]) (hivd : d.indexVectorDim = 1)
    (idx : IVec (shape2 N 1) 32) (n : Fin N) (j' : Fin C) (r : Fin R) (j : Fin C) :
    d.resultIdx? (ix2 n j') idx = some (ix2 r j) ↔ (idx (ix2 n (0 : Fin 1))).toInt = (r.val : Int) ∧ j' = j := by
  have hm : (0 : Fin 2) ∈ d.scatterDimsToOperandDims := by rw [hsd]; exact List.mem_singleton.2 rfl
  have hkept : d.sKept = [1] := by
    show (shape2 R C).kept d.insertedWindowDims = _
    rw [hiw]
    rfl
  have huk : ∀ k ∈ d.updateWindowDims, k = (1 : Fin 2) := fun k hk => by rw [huw] at hk; exact List.mem_singleton.1 hk
  have hus : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have e1 : ∀ X : Fin 2, X = 1 → (ix2 n j' X).val = j'.val := fun X h => by subst h; rfl
  have e0 : ∀ X : Fin 2, X = 0 → (ix2 n j' X).val = n.val := fun X h => by subst h; rfl
  have hwin0 : d.window (ix2 n j') 0 = 0 := by
    unfold ScatterDims.window
    rw [dif_neg fun h => (of_decide_eq_true (List.mem_filter.1 h).2) (by rw [hiw]; exact List.mem_singleton.2 rfl)]
  have hwin1 : d.window (ix2 n j') 1 = j'.val := by
    unfold ScatterDims.window
    rw [dif_pos (by rw [hkept]; exact List.mem_singleton.2 rfl)]
    exact e1 _ (huk _ (List.getElem_mem _))
  have hstart1 : d.start (ix2 n j') idx 1 = 0 := by
    unfold ScatterDims.start
    rw [dif_neg fun h => by rw [hsd] at h; exact absurd (List.mem_singleton.1 h) (by decide : (1 : Fin 2) ≠ 0)]
  have hstart0 : d.start (ix2 n j') idx 0 = (idx (ix2 n (0 : Fin 1))).toInt := by
    unfold ScatterDims.start
    rw [dif_pos hm]
    have hsi : d.siIdx (ix2 n j') ⟨d.scatterDimsToOperandDims.idxOf 0, List.idxOf_lt_length_iff.2 hm⟩ = ix2 n (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hus _ (List.getElem_mem _))
      | ⟨1, _⟩ =>
        unfold ScatterDims.siIdx
        rw [dif_pos (by rw [hivd])]
        show List.idxOf (0 : Fin 2) d.scatterDimsToOperandDims = 0
        rw [hsd]; simp
    rw [hsi]
  rw [resultIdx?_ix2, hstart0, hwin0, hstart1, hwin1, Fin.ext_iff]
  omega

/-- The reference's words, as it lays them out: copy `t` has the table's word of choice `t % 2` of token `t / 2`. -/
theorem flat_dest (T : IVec S2x32768 32) (h : S2x32768.Transposes [1, 0] (⟨2, ![32768, 2]⟩ : Shape))
    (h' : (⟨2, ![32768, 2]⟩ : Shape).ShapeCasts (⟨1, ![65536]⟩ : Shape)) (t : Fin 65536) :
    shapeCast (⟨1, ![65536]⟩ : Shape) (transpose (⟨2, ![32768, 2]⟩ : Shape) [1, 0] T h) h' (ix1 t) = T (tabIdx t) := by
  refine (cast21 _ h' ⟨t.val / 2, tok_lt t⟩ ⟨t.val % 2, Nat.mod_lt _ (by decide)⟩ t (by show t.val = t.val / 2 * 2 + t.val % 2; omega)).trans ?_
  refine (transpose_ix2_apply _ _ _ _).trans (congrArg T ?_)
  funext a
  match a with
  | ⟨0, _⟩ => rfl
  | ⟨1, _⟩ => rfl

/-- The reference's tokens: copy `t` is of token `t / 2`. -/
theorem flat_tok (h : (⟨1, ![32768]⟩ : Shape).BroadcastsInDim (⟨2, ![32768, 2]⟩ : Shape) (![0] : Fin 1 → Fin 2))
    (h' : (⟨2, ![32768, 2]⟩ : Shape).ShapeCasts (⟨1, ![65536]⟩ : Shape)) (t : Fin 65536) :
    shapeCast (⟨1, ![65536]⟩ : Shape) (broadcastInDim (⟨2, ![32768, 2]⟩ : Shape) ![0] h (iotaInDim (⟨1, ![32768]⟩ : Shape) 32 0)) h' (ix1 t)
      = BitVec.ofNat 32 (t.val / 2) := by
  refine (cast21 _ h' ⟨t.val / 2, tok_lt t⟩ ⟨t.val % 2, Nat.mod_lt _ (by decide)⟩ t (by show t.val = t.val / 2 * 2 + t.val % 2; omega)).trans ?_
  refine (broadcastInDim_apply _ h _ _ (ix1 ⟨t.val / 2, tok_lt t⟩) fun a => ?_).trans rfl
  match a with
  | ⟨0, _⟩ => rfl

/-- jnp's scatter of rows at wrapped words, the words distinct rows of the result and the updates the gathered tokens, is the layout the launch leaves. -/
theorem scatter_routed {F : FTy → Type} [FloatOps F] (c : Dev nD) (w : Fin NT → BitVec 32) (hw : ∀ t, (w t).toNat < 81920)
    (hinj : Function.Injective fun t => (w t).toNat) (X : Buf (Elt F) ((c : Thread nD τ).loc main_arg1)) (V0 : Buf (Elt F) ((c : Thread nD τ).loc main_v0))
    (d : ScatterDims (shape2 81920 1024) (shape2 65536 1) (shape2 65536 1024)) (huw : d.updateWindowDims = [1])
    (hiw : d.insertedWindowDims = [0]) (hsd : d.scatterDimsToOperandDims = [0]) (hivd : d.indexVectorDim = 1)
    (idx : IVec (shape2 65536 1) 32) (hidx : ∀ t : Fin 65536, idx (ix2 t (0 : Fin 1)) = w t)
    (U : FVec F (shape2 65536 1024) .f32) (hU : ∀ (t : Fin 65536) (j : Fin 1024), U (ix2 t j) = X (ix2 (⟨t.val / 2, tok_lt t⟩ : Fin 32768) j)) :
    Host.scatter d (fun _ b => b) V0 idx U = routed c w X V0 := by
  have key : ∀ (t : Fin 65536) (j' : Fin 1024) (i : S81920x1024.Idx), d.resultIdx? (ix2 t j') idx = some i ↔ (w t).toNat = (i 0).val ∧ j' = (i 1 : Fin 1024) := fun t j' i => by
    obtain ⟨r, j, rfl⟩ : ∃ (r : Fin 81920) (j : Fin 1024), i = ix2 r j := ⟨i 0, i 1, eq_ix2 i⟩
    show d.resultIdx? (ix2 t j') idx = some (ix2 r j) ↔ (w t).toNat = r.val ∧ j' = j
    rw [lands_row d huw hiw hsd hivd, hidx, StableHlo.Predicate.toInt_eq_toNat_of_lt ((hw t).trans (by decide))]
    constructor
    · rintro ⟨a, b⟩; exact ⟨by exact_mod_cast a, b⟩
    · rintro ⟨a, b⟩; exact ⟨by exact_mod_cast a, b⟩
  have hk : ∀ k : (shape2 65536 1024).Idx, ∃ (t : Fin 65536) (j : Fin 1024), k = ix2 t j := fun k => ⟨k 0, k 1, eq_ix2 k⟩
  funext i
  by_cases h : ∃ t, (w t).toNat = ((i : S81920x1024.Idx) 0).val
  · obtain ⟨t, ht⟩ := h
    rw [routed_hit c w hinj X V0 t i ht]
    refine scatter_set_hit d V0 idx U i _ (fun k hkk => ?_) (ix2 (t : Fin 65536) (i 1 : Fin 1024)) ((key _ _ _).2 ⟨ht, rfl⟩)
    obtain ⟨t', j', rfl⟩ := hk k
    obtain ⟨h0, h1⟩ := (key _ _ _).1 hkk
    have et : t' = t := hinj (h0.trans ht.symm)
    rw [hU]
    refine congrArg X ?_
    funext a
    match a with
    | ⟨0, _⟩ => exact Fin.ext (congrArg (fun u : Fin 65536 => u.val / 2) et)
    | ⟨1, _⟩ => exact h1
  · rw [routed_miss c w X V0 i (fun t ht => h ⟨t, ht⟩)]
    refine scatter_set_miss d V0 idx U i fun k hkk => ?_
    obtain ⟨t', j', rfl⟩ := hk k
    exact h ⟨_, ((key _ _ _).1 hkk).1⟩

/-- The layout before the launch: zeros. -/
theorem V_main_v0 {F : FTy → Type} [FloatOps F] (m : (ℓ : Loc nD τ sig) → Buf (Elt F) ℓ) (c : Dev nD) :
    Gen.V m c main_v0 = broadcastInDim S81920x1024 ![] Gen.facts.bcast_S_S81920x1024 (constant S_ .f32 0x00000000#32) := by
  unfold Gen.V
  after_results <;> rfl

/-- The reference's result, of a table of distinct rows, is the layout the launch leaves. -/
theorem reference_eq {F : FTy → Type} [FloatOps F] (m : (ℓ : Loc nD τ sig) → Buf (Elt F) ℓ) (hd : Distinct m) (c : Dev nD)
    (d : ScatterDims (shape2 81920 1024) (shape2 65536 1) (shape2 65536 1024)) (huw : d.updateWindowDims = [1])
    (hiw : d.insertedWindowDims = [0]) (hsd : d.scatterDimsToOperandDims = [0]) (hivd : d.indexVectorDim = 1)
    (g : GatherDims (shape2 32768 1024) (shape2 65536 1) (shape2 65536 1024)) (hoff : g.offsetDims = [1])
    (hcoll : g.collapsedSliceDims = [0]) (hob : g.operandBatchingDims = []) (hsim : g.startIndexMap = [0]) (hgivd : g.indexVectorDim = 1)
    (hz : (⟨0, ![]⟩ : Shape).BroadcastsInDim (shape1 65536) (![] : Fin 0 → Fin 1))
    (hc : (shape1 65536).BroadcastsInDim (shape2 65536 1) (![0] : Fin 1 → Fin 2))
    (D K : IVec (shape1 65536) 32) (hD : ∀ t : Fin 65536, D (ix1 t) = word m c t) (hK : ∀ t : Fin 65536, K (ix1 t) = BitVec.ofNat 32 (t.val / 2)) :
    Host.scatter d (fun _ b => b) (Gen.V m c main_v0 : FVec F (shape2 81920 1024) .f32)
      (broadcastInDim (shape2 65536 1) ![0] hc (select (cmpi .slt D (broadcastInDim (shape1 65536) ![] hz (constantI (⟨0, ![]⟩ : Shape) 32 0#32)))
        (addi D (broadcastInDim (shape1 65536) ![] hz (constantI (⟨0, ![]⟩ : Shape) 32 81920#32))) D))
      (Host.gather g (m ((c : Thread nD τ).loc main_arg1) : FVec F (shape2 32768 1024) .f32)
        (broadcastInDim (shape2 65536 1) ![0] hc (select (cmpi .slt K (broadcastInDim (shape1 65536) ![] hz (constantI (⟨0, ![]⟩ : Shape) 32 0#32)))
          (addi K (broadcastInDim (shape1 65536) ![] hz (constantI (⟨0, ![]⟩ : Shape) 32 32768#32))) K)))
    = after0 m c main_v0 := by
  have hwrap : ∀ (x : IVec (shape1 65536) 32) (a : BitVec 32) (t : Fin 65536), (x (ix1 t)).toNat < 81920 →
      broadcastInDim (shape2 65536 1) ![0] hc (select (cmpi .slt x (broadcastInDim (shape1 65536) ![] hz (constantI (⟨0, ![]⟩ : Shape) 32 0#32)))
        (addi x (broadcastInDim (shape1 65536) ![] hz (constantI (⟨0, ![]⟩ : Shape) 32 a))) x) (ix2 t (0 : Fin 1)) = x (ix1 t) := fun x a t hx => by
    rw [bcCol]
    exact wrap_of_lt _ _ (hx.trans (by decide))
  have htok : ∀ t : Fin 65536, t.val / 2 < 32768 := fun t => by have := t.isLt; omega
  rw [after0_v0, Gen.V_main_arg1]
  refine scatter_routed c (word m c) (hd.range c) (hd.inj c) _ _ d huw hiw hsd hivd _ (fun t => ?_) _ (fun t j => ?_)
  · rw [hwrap _ _ _ (by rw [hD]; exact hd.range c t), hD]
  · refine gather_row g hoff hcoll hob hsim hgivd _ _ t j ⟨t.val / 2, htok t⟩ ?_ (by decide)
    rw [hwrap _ _ _ ?_, hK]
    rw [hK, BitVec.toNat_ofNat]
    have := htok t
    omega

end Cert.KernelIdeal.Dispatch

end
-- ==== Proof.AttnBody.lean ====
module

public import proofs.«01_k».proof.Proof.Gen.Kernel2Ideal.Frame
public import Idealize.ShloMosaic.Lib.WritesUnit
public import Idealize.ShloMosaic.Lib.ValueIdx
public import Idealize.ShloMosaic.Lib.ValueLayout

@[expose] public section

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The tiles of a point's blocks -/

theorem inbQ (n : Fin 16) : ∀ a, (![0, 0, 0, 512 * n.val] : Fin 4 → ℕ) a + S1x1x128x512.size a ≤ S1x1x128x8192.size a := fun a => by
  have := n.isLt; fin_cases a <;> simp [S1x1x128x512, S1x1x128x8192] <;> omega
theorem inbK (n : Fin 16) : ∀ a, (![0, 0, 512 * n.val, 0] : Fin 4 → ℕ) a + S1x1x512x128.size a ≤ S1x1x8192x128.size a := fun a => by
  have := n.isLt; fin_cases a <;> simp [S1x1x512x128, S1x1x8192x128] <;> omega
theorem inbV (n : Fin 16) : ∀ a, (![0, 0, 0, 512 * n.val] : Fin 4 → ℕ) a + S1x1x80x512.size a ≤ S1x1x80x8192.size a := fun a => by
  have := n.isLt; fin_cases a <;> simp [S1x1x80x512, S1x1x80x8192] <;> omega

/-- The queries of tile `n`. -/
def qTile (X : Vec F S1x1x128x8192 .bf16) (n : Fin 16) : Vec F S1x1x128x512 .bf16 :=
  fun x => X ((Rect.unit (s := S1x1x128x8192) ![0, 0, 0, 512 * n.val] S1x1x128x512.size (inbQ n)).toLoadRect.idx x)
/-- The keys of tile `n`. -/
def kTile (X : Vec F S1x1x8192x128 .bf16) (n : Fin 16) : Vec F S1x1x512x128 .bf16 :=
  fun x => X ((Rect.unit (s := S1x1x8192x128) ![0, 0, 512 * n.val, 0] S1x1x512x128.size (inbK n)).toLoadRect.idx x)
/-- The values of tile `n`. -/
def vTile (X : Vec F S1x1x80x8192 .bf16) (n : Fin 16) : Vec F S1x1x80x512 .bf16 :=
  fun x => X ((Rect.unit (s := S1x1x80x8192) ![0, 0, 0, 512 * n.val] S1x1x80x512.size (inbV n)).toLoadRect.idx x)

/-! ## The arithmetic of a tile -/

/-- What the inner loop carries: the running maximum and the running weighted sums. -/
abbrev Carry (F : FTy → Type) : Type := FVec F S1x512 .f32 × FVec F S80x512 .f32

/-- The carried values before the first tile. -/
def start : Carry F :=
  (broadcast S1x512 (Named.named κ "mask" 0xF149F2CA#32 : F .f32), broadcast S80x512 (Scalar.ofBits .f32 0x00000000#32 : F .f32))

/-- The scores of a tile of keys at a tile of queries. -/
def scores (q : Vec F S1x1x128x512 .bf16) (k : Vec F S1x1x512x128 .bf16) : FVec F S512x512 .f32 :=
  matmul dot_S512x128_S128x512_S512x512_1_0_0_1_n_n none (shapeCast S512x128 k shapeCasts_S1x1x512x128_S512x128 : FVec F S512x128 .bf16)
    (shapeCast S128x512 q shapeCasts_S1x1x128x512_S128x512 : FVec F S128x512 .bf16) (constant S512x512 .f32 0x00000000#32)

/-- The scores of the diagonal tile, the later keys masked. -/
def masked (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32 : F .f32))

/-- The running maximum over one more tile of scores. -/
def nextMax (s : FVec F S512x512 .f32) (m : FVec F S1x512 .f32) : FVec F S1x512 .f32 :=
  maximumf m (shapeCast S1x512 (multiReduction .maximumf [0] S512 s 0xFF800000#32 reduces_S512x512_S512 (.inl rfl) rfl : FVec F S512 .f32) shapeCasts_S512_S1x512)

/-- The weighted sums over one more tile of scores. -/
def nextSum (s : FVec F S512x512 .f32) (v : Vec F S1x1x80x512 .bf16) (m m' : FVec F S1x512 .f32) (acc : FVec F S80x512 .f32) : FVec F S80x512 .f32 :=
  addf (mulf (broadcastTo S80x512 (exp2 (subf m m') : FVec F S1x512 .f32) broadcasts_S1x512_S80x512) acc)
    (matmul dot_S80x512_S512x512_S80x512_1_0_0_1_n_n none (shapeCast S80x512 v shapeCasts_S1x1x80x512_S80x512 : FVec F S80x512 .bf16)
      (truncf .bf16 (exp2 (subf s (broadcastTo S512x512 m' broadcasts_S1x512_S512x512)) : FVec F S512x512 .f32) bitsLt_bf16_f32)
      (constant S80x512 .f32 0x00000000#32))

/-- One tile of scores folded in. -/
def fold (s : FVec F S512x512 .f32) (v : Vec F S1x1x80x512 .bf16) (c : Carry F) : Carry F :=
  (nextMax s c.1, nextSum s v c.1 (nextMax s c.1) c.2)

/-- The carried values after the first `n` tiles. -/
def carryAt (q : Vec F S1x1x128x512 .bf16) (X3 : Vec F S1x1x8192x128 .bf16) (X4 : Vec F S1x1x80x8192 .bf16) : ℕ → Carry F
  | 0 => start
  | n + 1 => if h : n < 16 then fold (scores q (kTile X3 ⟨n, h⟩)) (vTile X4 ⟨n, h⟩) (carryAt q X3 X4 n) else carryAt q X3 X4 n

theorem carryAt_succ (q : Vec F S1x1x128x512 .bf16) (X3 : Vec F S1x1x8192x128 .bf16) (X4 : Vec F S1x1x80x8192 .bf16) (n : ℕ) (h : n < 16) :
    carryAt q X3 X4 (n + 1) = fold (scores q (kTile X3 ⟨n, h⟩)) (vTile X4 ⟨n, h⟩) (carryAt q X3 X4 n) := dif_pos h

/-- The sums divided by the denominator's row. -/
def divide (acc : FVec F S80x512 .f32) : FVec F S64x512 .bf16 :=
  truncf .bf16 (divf (extractStridedSlice S64x512 ![0, 0] acc slices_S80x512_o0_0_S64x512)
    (broadcastTo S64x512 (extractStridedSlice S1x512 ![64, 0] acc slices_S80x512_o64_0_S1x512 : FVec F S1x512 .f32) broadcasts_S1x512_S64x512) : FVec F S64x512 .f32) bitsLt_bf16_f32

/-- The output tile of query tile `n`. -/
def outTile (X2 : Vec F S1x1x128x8192 .bf16) (X3 : Vec F S1x1x8192x128 .bf16) (X4 : Vec F S1x1x80x8192 .bf16) (n : Fin 16) : FVec F S64x512 .bf16 :=
  divide (fold (masked (scores (qTile X2 n) (kTile X3 n))) (vTile X4 n) (carryAt (qTile X2 n) X3 X4 n.val)).2

/-- The output block of a point. -/
def outBlock (X2 : Vec F S1x1x128x8192 .bf16) (X3 : Vec F S1x1x8192x128 .bf16) (X4 : Vec F S1x1x80x8192 .bf16) : Vec F S1x64x8192 .bf16 :=
  fun y => outTile X2 X3 X4 ⟨(y 2).val / 512, Nat.div_lt_of_lt_mul (y 2).isLt⟩
    (ix2 ⟨(y 1).val, (y 1).isLt⟩ ⟨(y 2).val % 512, Nat.mod_lt _ (by decide)⟩)

/-! ## The loops -/

theorem trips1 : k0_t1_loop.trips = 16 := by decide
theorem trips2 : ∀ t : Fin k0_t1_loop.trips, (k0_t2_loop t).trips = t.val := by decide +kernel
theorem trips3 (t : Fin k0_t1_loop.trips) : (k0_t3_loop t).trips = 0 := Nat.le_zero.mp (k0_t3_abs t).2.1
theorem lt16 (t : Fin k0_t1_loop.trips) : t.val < 16 := t.isLt.trans_eq trips1

variable (c : Dev nD)
  (arg2 : Memref sig .tc .vmem S1x1x128x8192 .bf16) (harg2 : arg2.IsWhole) (arg3 : Memref sig .tc .vmem S1x1x8192x128 .bf16) (harg3 : arg3.IsWhole)
  (arg4 : Memref sig .tc .vmem S1x1x80x8192 .bf16) (harg4 : arg4.IsWhole) (arg5 : Memref sig .tc .vmem S1x64x8192 .bf16) (harg5 : arg5.IsWhole)
  (f2 : Buf (Elt F) (arg2.view.loc (c : Thread nD τ))) (f3 : Buf (Elt F) (arg3.view.loc (c : Thread nD τ))) (f4 : Buf (Elt F) (arg4.view.loc (c : Thread nD τ)))

omit [FloatOps F] [Named F] in
theorem readAt_congr {s : Shape} {φ : EltTy} (v : Memref sig .tc .vmem s φ) {off off' : Fin s.rank → ℕ} (e : off = off') (sz : Fin s.rank → ℕ)
    (h : ∀ a, off a + sz a ≤ s.size a) (h' : ∀ a, off' a + sz a ≤ s.size a) (f : v.view.ty.Contents (Elt F)) :
    v.view.readAt (Elt F) (Rect.unit (s := s) off sz h).toLoadRect f
      = fun x => v.view.read (Elt F) f ((Rect.unit (s := s) off' sz h').toLoadRect.idx x) := by
  subst e; rfl

theorem read_q (t : Fin k0_t1_loop.trips) :
    arg2.view.readAt (Elt F) (Rect.unit (s := S1x1x128x8192) (k0_off1 t) S1x1x128x512.size (k0_off1_inb t)).toLoadRect f2
      = qTile (arg2.view.read (Elt F) f2) ⟨t.val, lt16 t⟩ :=
  readAt_congr _ (k0_off1_eq t) _ _ _ _
theorem read_k (t : Fin k0_t1_loop.trips) (u : Fin (k0_t2_loop t).trips) (hu : u.val < 16) :
    arg3.view.readAt (Elt F) (Rect.unit (s := S1x1x8192x128) (k0_off2 t u) S1x1x512x128.size (k0_off2_inb t u)).toLoadRect f3
      = kTile (arg3.view.read (Elt F) f3) ⟨u.val, hu⟩ :=
  readAt_congr _ (k0_off2_eq t u) _ _ _ _
theorem read_v (t : Fin k0_t1_loop.trips) (u : Fin (k0_t2_loop t).trips) (hu : u.val < 16) :
    arg4.view.readAt (Elt F) (Rect.unit (s := S1x1x80x8192) (k0_off3 t u) S1x1x80x512.size (k0_off3_inb t u)).toLoadRect f4
      = vTile (arg4.view.read (Elt F) f4) ⟨u.val, hu⟩ :=
  readAt_congr _ (k0_off3_eq t u) _ _ _ _
theorem read_k' (t : Fin k0_t1_loop.trips) :
    arg3.view.readAt (Elt F) (Rect.unit (s := S1x1x8192x128) (k0_off6 t) S1x1x512x128.size (k0_off6_inb t)).toLoadRect f3
      = kTile (arg3.view.read (Elt F) f3) ⟨t.val, lt16 t⟩ :=
  readAt_congr _ (k0_off6_eq t) _ _ _ _
theorem read_v' (t : Fin k0_t1_loop.trips) :
    arg4.view.readAt (Elt F) (Rect.unit (s := S1x1x80x8192) (k0_off7 t) S1x1x80x512.size (k0_off7_inb t)).toLoadRect f4
      = vTile (arg4.view.read (Elt F) f4) ⟨t.val, lt16 t⟩ :=
  readAt_congr _ (k0_off7_eq t) _ _ _ _

/-- Before trip `n` of the inner loop the carried values are those of the first `n` tiles. -/
def inner (q : Vec F S1x1x128x512 .bf16) (n : ℕ) (s : Carry F) : sProp 𝕄 :=
  iprop(⌜s = carryAt q (arg3.view.read (Elt F) f3) (arg4.view.read (Elt F) f4) n⌝
    ∗ (arg3.view.loc (c : Thread nD τ) ↦{fullShare} f3) ∗ (arg4.view.loc (c : Thread nD τ) ↦{fullShare} f4))

/-- Before trip `n` of the outer loop the output's first `n` tiles are written. -/
def outer (n : ℕ) (_ : PUnit.{1}) : sProp 𝕄 :=
  iprop((arg2.view.loc (c : Thread nD τ) ↦{fullShare} f2) ∗ (arg3.view.loc (c : Thread nD τ) ↦{fullShare} f3) ∗ (arg4.view.loc (c : Thread nD τ) ↦{fullShare} f4)
    ∗ ∃ f5 : Buf (Elt F) (arg5.view.loc (c : Thread nD τ)),
      ⌜∀ y : S1x64x8192.Idx, (y 2).val < 512 * n → arg5.view.read (Elt F) f5 y
        = outBlock (arg2.view.read (Elt F) f2) (arg3.view.read (Elt F) f3) (arg4.view.read (Elt F) f4) y⌝
      ∗ (arg5.view.loc (c : Thread nD τ) ↦{fullShare} f5))

/-- Storing tile `n` takes the first `n` tiles written to the first `n + 1`. -/
theorem store_tile (t : Fin k0_t1_loop.trips) (X2 : Vec F S1x1x128x8192 .bf16) (X3 : Vec F S1x1x8192x128 .bf16) (X4 : Vec F S1x1x80x8192 .bf16)
    (f5 : arg5.view.ty.Contents (Elt F)) (hf : ∀ y : S1x64x8192.Idx, (y 2).val < 512 * t.val → arg5.view.read (Elt F) f5 y = outBlock X2 X3 X4 y)
    (y : S1x64x8192.Idx) (hy : (y 2).val < 512 * (t.val + 1)) :
    arg5.view.read (Elt F) (arg5.view.writes (Elt F) f5
      [(⟨Rect.unit (s := S1x64x8192) (k0_off8 t) S1x64x512.size (k0_off8_inb t),
        (shapeCast S1x64x512 (outTile X2 X3 X4 ⟨t.val, lt16 t⟩) shapeCasts_S64x512_S1x64x512 : FVec F S1x64x512 .bf16)⟩ : View.Piece (Elt F) S1x64x8192 .bf16)]) y
      = outBlock X2 X3 X4 y := by
  by_cases h : (y 2).val < 512 * t.val
  · rw [View.read_writes_cons_unit_of_not_mem _ _ _ _ _ _ (k0_off8_eq t) 2 (Or.inl h)]
    exact hf y h
  · have h0 : (y 0).val = 0 := by have := (y 0).isLt; simp [S1x64x8192] at this; omega
    rw [View.read_writes_cons_unit_of_mem _ _ _ _ _ _ (ix3 (0 : Fin 1) ⟨(y 1).val, (y 1).isLt⟩ ⟨(y 2).val - 512 * t.val, by omega⟩ : S1x64x512.Idx) (k0_off8_eq t)
      (fun a => by fin_cases a <;> simp [h0] <;> omega)]
    unfold outBlock
    have e1 : (⟨(y 2).val / 512, Nat.div_lt_of_lt_mul (y 2).isLt⟩ : Fin 16) = ⟨t.val, lt16 t⟩ := Fin.ext (by show (y 2).val / 512 = t.val; omega)
    have e2 : (⟨(y 2).val % 512, Nat.mod_lt _ (by decide)⟩ : Fin 512) = ⟨(y 2).val - 512 * t.val, by omega⟩ :=
      Fin.ext (by show (y 2).val % 512 = (y 2).val - 512 * t.val; omega)
    rw [e1, e2]
    exact shapeCast_ab_1ab_apply _ _ _ _ _

/-- One trip of the outer loop. -/
theorem body_loop (i : grid0.Coords) :
    outer c arg2 arg3 arg4 arg5 f2 f3 f4 0 ⟨⟩ ⊢
     wp frame (wpE (defs₀ (F := F)) Variants.none (c : Thread nD τ) none) Set.univ
      (cc0_mla_attention (F := F) i arg2 harg2 arg3 harg3 arg4 harg4 arg5 harg5)
      (fun _ => outer c arg2 arg3 arg4 arg5 f2 f3 f4 16 ⟨⟩) := by
  iintro H
  unfold cc0_mla_attention
  sl_exec
  sl_for (outer c arg2 arg3 arg4 arg5 f2 f3 f4) $$ [H]
  · intro t acc
    unfold outer
    iintro ⟨H2, H3, H4, %f5, %hf5, H5⟩
    sl_exec
    sl_for (inner c arg3 arg4 f3 f4 (qTile (arg2.view.read (Elt F) f2) ⟨t.val, lt16 t⟩)) $$ [H3 H4]
    · intro u s
      have hu : u.val < 16 := u.isLt.trans ((trips2 t).le.trans_lt (lt16 t))
      unfold inner
      iintro ⟨%hs, H3, H4⟩
      sl_exec
      sl_step
      isplitr
      · ipureintro
        rw [carryAt_succ _ _ _ _ hu, ← hs, ← read_q, ← read_k, ← read_v]
        rfl
      isplitl [H3]; · iexact H3
      iexact H4
    · unfold inner
      isplitr
      · ipureintro; rfl
      isplitl [H3]; · iexact H3
      iexact H4
    iintro %acc HI
    ihave HI' := (show inner c arg3 arg4 f3 f4 (qTile (arg2.view.read (Elt F) f2) ⟨t.val, lt16 t⟩) (k0_t2_loop t).trips acc ⊢
        inner c arg3 arg4 f3 f4 (qTile (arg2.view.read (Elt F) f2) ⟨t.val, lt16 t⟩) t.val acc from by rw [trips2]) $$ HI
    unfold inner
    icases HI' with ⟨%hacc, H3, H4⟩
    sl_exec
    sl_for (fun _ s => iprop(⌜s = carryAt (qTile (arg2.view.read (Elt F) f2) ⟨t.val, lt16 t⟩) (arg3.view.read (Elt F) f3) (arg4.view.read (Elt F) f4) t.val⌝
      ∗ (arg3.view.loc (c : Thread nD τ) ↦{fullShare} f3) ∗ (arg4.view.loc (c : Thread nD τ) ↦{fullShare} f4))) $$ [H3 H4]
    · intro u s
      exact absurd u.isLt (by have := trips3 t; unfold Scf.Loop.trips at this; omega)
    · isplitr
      · ipureintro; exact hacc
      isplitl [H3]; · iexact H3
      iexact H4
    clear hacc
    iintro %acc' ⟨%hacc, H3, H4⟩
    sl_exec
    sl_step
    isplitl [H2]; · iexact H2
    isplitl [H3]; · iexact H3
    isplitl [H4]; · iexact H4
    iexists _; isplitr
    rotate_left
    · iexact H5
    ipureintro
    have hv : body_loop.sl.v50 c arg2 arg3 arg4 f2 f3 f4 t acc'
        = (shapeCast S1x64x512 (outTile (arg2.view.read (Elt F) f2) (arg3.view.read (Elt F) f3) (arg4.view.read (Elt F) f4) ⟨t.val, lt16 t⟩)
            shapeCasts_S64x512_S1x64x512 : FVec F S1x64x512 .bf16) := by
      unfold outTile
      rw [← hacc, ← read_q, ← read_k', ← read_v']
      rfl
    rw [hv]
    exact fun y hy => store_tile arg5 t _ _ _ f5 hf5 y hy
  · iexact H
  iintro %acc HL
  sl_exec
  sl_step
  iexact HL

end Cert.Kernel2Ideal.Attn

end
-- ==== Proof.AttnRun.lean ====
module

public import proofs.«01_k».proof.Proof.AttnBody

@[expose] public section

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! The whole launch: the body's triple at the 64 points put under the pipeline. -/

variable (m : (ℓ : Loc nD τ sig) → Buf (Elt F) ℓ) (ρ : Dev nD → PrngReg)

/-- The output block a point leaves. -/
def outAt (c : Dev nD) (t : Fin cfg0.N) : Vec F S1x64x8192 .bf16 :=
  outBlock (iblk m c 0 t : Vec F S1x1x128x8192 .bf16) (iblk m c 1 t : Vec F S1x1x8192x128 .bf16) (iblk m c 2 t : Vec F S1x1x80x8192 .bf16)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev hs0 (t : Fin cfg0.N) := hstage0_0 ((cfg0.slots t 0).cast nbuf0_0)
abbrev hs1 (t : Fin cfg0.N) := hstage0_1 ((cfg0.slots t 1).cast nbuf0_1)
abbrev hs2 (t : Fin cfg0.N) := hstage0_2 ((cfg0.slots t 2).cast nbuf0_2)
abbrev hs3 (t : Fin cfg0.N) := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [after0_0, after0_1, after0_2, after0_3, show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %f0, %h0, H0⟩, ⟨%d1, %f1, %h1, H1⟩, ⟨%d2, %f2, %h2, H2⟩, ⟨%d3, %f3, -, H3⟩⟩
  rw [before0_0] at h0
  rw [before0_1] at h1
  rw [before0_2] at h2
  have hb := body_loop c (ms0 t) (hs0 t) (ms1 t) (hs1 t) (ms2 t) (hs2 t) (ms3 t) (hs3 t) f0 f1 f2 (grid0.coords t)
  rw [show (ms0 t).view.set = Finset.univ from (hs0 t).set_eq_univ, show (ms1 t).view.set = Finset.univ from (hs1 t).set_eq_univ,
    show (ms2 t).view.set = Finset.univ from (hs2 t).set_eq_univ, show (ms3 t).view.set = Finset.univ from (hs3 t).set_eq_univ]
  iapply (Idealize.SL.Sem.wp_wand_r frame (wpE (defs₀ (F := F)) Variants.none (c : Thread nD τ) none) Set.univ
    (Q := fun _ => outer c (ms0 t) (ms1 t) (ms2 t) (ms3 t) f0 f1 f2 16 ⟨⟩))
  isplitl [H0 H1 H2 H3]
  · iapply hb
    unfold outer
    isplitl [H0]; · iexact H0
    isplitl [H1]; · iexact H1
    isplitl [H2]; · iexact H2
    iexists f3; isplitr
    · ipureintro; exact fun y hy => absurd hy (by omega)
    iexact H3
  · unfold outer
    iintro %a ⟨H0, H1, H2, %f5, %hf, H3⟩
    isplitl [HΦ]; · iexact HΦ
    isplitl [HW]
    · iexists W; isplitr; · ipureintro; exact fun _ _ => Or.inl trivial
      iexact HW
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    iexists f5; isplitr
    · ipureintro
      rw [h0, h1, h2] at hf
      exact funext fun y => hf y (by have := (y 2).isLt; exact this)
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run: it ends with every semaphore at zero, the arrays at their last contents. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The array the launch leaves. -/
def launched (c : Dev nD) : Buf (Elt F) ((c : Thread nD τ).loc (Pipeline.arrRef spec0 3)) := (dats m 0 c).arrAt 3 cfg0.N

/-- The arguments and the result after the run. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v23) = Pipeline.afterTail₀ cfgs (dats m) 0 (V0 m) [hostOps1] c main_v23)
      ∧ r.2.sem = fun _ => 0) :=
  (θ_run defs _ _).mono (fun _ h => ⟨fun c => ⟨⟨
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c))⟩,
      (h.1 c).2 main_v23 (Pipeline.mem_restRefs_of main_v23 (by decide) (by decide))⟩, h.2⟩) (run_main m ρ)

end Cert.Kernel2Ideal.Attn

end
-- ==== Proof.AttnMath.lean ====
module

public import Idealize.ShloMosaic.PureOps.Ideal
public import Idealize.ShloMosaic.PureOps.Ideal.Laws
public import Mathlib.Data.Finset.Fold
public import Mathlib.Analysis.SpecialFunctions.Pow.Real

@[expose] public section

noncomputable section

/-! A softmax taken tile by tile, against one taken at once: the extended-real arithmetic. -/

namespace Cert.Attn

open Idealize.ShloMosaic

/-- A sum of reals read as an extended real. -/
theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor goes into a sum of extended reals, -/
theorem mul_sum {ι : Type*} (c : ℝ) (hc : 0 ≤ c) (S : Finset ι) (f : ι → EReal) : (c : EReal) * ∑ j ∈ S, f j = ∑ j ∈ S, (c : EReal) * f j := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top c), ih]
/-- from the right as well. -/
theorem sum_mul {ι : Type*} (c : ℝ) (hc : 0 ≤ c) (S : Finset ι) (f : ι → EReal) : (∑ j ∈ S, f j) * (c : EReal) = ∑ j ∈ S, f j * (c : EReal) := by
  rw [mul_comm, mul_sum c hc]
  exact Finset.sum_congr rfl fun j _ => mul_comm _ _

/-- The maximum of values none of which is `⊤` and one of which is not `⊥` is a real. -/
theorem fold_max_real {ι : Type*} (S : Finset ι) (f : ι → EReal) (b : EReal) (hb : b ≠ ⊤) (ht : ∀ j ∈ S, f j ≠ ⊤) (hx : b ≠ ⊥ ∨ ∃ j ∈ S, f j ≠ ⊥) :
    ∃ r : ℝ, S.fold max b f = r := by
  have h1 : S.fold max b f ≠ ⊤ := by
    have : S.fold max b f < ⊤ := (Finset.fold_max_lt (c := (⊤ : EReal))).mpr ⟨lt_top_iff_ne_top.mpr hb, fun j hj => lt_top_iff_ne_top.mpr (ht j hj)⟩
    exact this.ne
  have h2 : S.fold max b f ≠ ⊥ := by
    have : ⊥ < S.fold max b f := by
      rw [Finset.lt_fold_max (c := (⊥ : EReal))]
      rcases hx with h | ⟨j, hj, h⟩
      · exact Or.inl (bot_lt_iff_ne_bot.mpr h)
      · exact Or.inr ⟨j, hj, bot_lt_iff_ne_bot.mpr h⟩
    exact this.ne'
  exact ⟨_, (EReal.coe_toReal h1 h2).symm⟩

theorem max_real (a b : EReal) (ha : a ≠ ⊤) (hb : ∃ r : ℝ, b = r) : ∃ r : ℝ, max a b = r := by
  obtain ⟨r, rfl⟩ := hb
  rcases max_choice a (r : EReal) with h | h
  · rw [h]
    refine ⟨a.toReal, (EReal.coe_toReal ha ?_).symm⟩
    rintro rfl
    exact absurd (le_max_right (⊥ : EReal) (r : EReal)) (by rw [h]; simp)
  · exact ⟨r, h⟩

theorem exp2_coe_sub (x y : ℝ) : Ideal.exp2 ((x : EReal) - (y : EReal)) = ((2 : ℝ) ^ (x - y) : ℝ) := by
  rw [← EReal.coe_sub]; rfl

theorem exp2_bot_sub (y : ℝ) : Ideal.exp2 ((⊥ : EReal) - (y : EReal)) = 0 := by
  rw [show ((⊥ : EReal) - (y : EReal)) = ⊥ from rfl]; rfl

theorem exp_coe_sub (x y : ℝ) : Ideal.exp ((x : EReal) - (y : EReal)) = (Real.exp (x - y) : ℝ) := by
  rw [← EReal.coe_sub]; rfl

theorem exp_bot_sub (y : ℝ) : Ideal.exp ((⊥ : EReal) - (y : EReal)) = 0 := by
  rw [show ((⊥ : EReal) - (y : EReal)) = ⊥ from rfl]; rfl

/-- The weighted sum so far, taken to a new maximum. -/
theorem rescale (N : ℕ) (σ : ℕ → ℝ) (v : ℕ → EReal) (m : EReal) (m' : ℝ) (hm : N = 0 ∨ ∃ r : ℝ, m = r) :
    Ideal.exp2 (m - (m' : EReal)) * ∑ j ∈ Finset.range N, v j * Ideal.exp2 ((σ j : EReal) - m)
      = ∑ j ∈ Finset.range N, v j * Ideal.exp2 ((σ j : EReal) - (m' : EReal)) := by
  rcases hm with rfl | ⟨r, rfl⟩
  · simp
  · rw [exp2_coe_sub, mul_sum _ (by positivity)]
    refine Finset.sum_congr rfl fun j _ => ?_
    rw [exp2_coe_sub, exp2_coe_sub, mul_left_comm, ← EReal.coe_mul, ← Real.rpow_add (by norm_num)]
    congr 3
    ring

/-- A key's score under the causal mask of query `i`. -/
def causal (i : ℕ) (s : ℕ → ℝ) (j : ℕ) : EReal := if j ≤ i then (s j : EReal) else ⊥

/-- The normalised sums agree: base two over the keys of the tiles up to the query's, base e over all keys. -/
theorem normalize (i N L : ℕ) (hi : i < N) (hN : N ≤ L) (z σ : ℕ → ℝ) (hσ : ∀ j, σ j = z j * (1 / Real.log 2)) (m M : ℝ) (v : ℕ → EReal) :
    Ideal.div (∑ j ∈ Finset.range N, v j * Ideal.exp2 (causal i σ j - (m : EReal))) (∑ j ∈ Finset.range N, 1 * Ideal.exp2 (causal i σ j - (m : EReal)))
      = ∑ j ∈ Finset.range L, v j * Ideal.div (Ideal.exp (causal i z j - (M : EReal))) (∑ j ∈ Finset.range L, Ideal.exp (causal i z j - (M : EReal))) := by
  have hl : Real.log 2 ≠ 0 := (Real.log_pos (by norm_num)).ne'
  let E : ℕ → ℝ := fun j => if j ≤ i then Real.exp (z j - M) else 0
  have hE0 : ∀ j, 0 ≤ E j := fun j => by
    show 0 ≤ (if j ≤ i then Real.exp (z j - M) else 0)
    split
    · exact (Real.exp_pos _).le
    · exact le_rfl
  obtain ⟨κ, hκ0, hκ⟩ : ∃ κ : ℝ, 0 < κ ∧ ∀ j, Ideal.exp2 (causal i σ j - (m : EReal)) = ((κ * E j : ℝ) : EReal) := by
    refine ⟨Real.exp (M - m * Real.log 2), Real.exp_pos _, fun j => ?_⟩
    unfold causal
    by_cases h : j ≤ i
    · rw [if_pos h, exp2_coe_sub, show E j = Real.exp (z j - M) from if_pos h, ← Real.exp_add, Real.rpow_def_of_pos (by norm_num), hσ]
      congr 2
      field_simp
      ring
    · rw [if_neg h, exp2_bot_sub, show E j = 0 from if_neg h, mul_zero, EReal.coe_zero]
  have hexp : ∀ j, Ideal.exp (causal i z j - (M : EReal)) = (E j : EReal) := fun j => by
    unfold causal
    by_cases h : j ≤ i
    · rw [if_pos h, exp_coe_sub, show E j = Real.exp (z j - M) from if_pos h]
    · rw [if_neg h, exp_bot_sub, show E j = 0 from if_neg h, EReal.coe_zero]
  have hEL : ∀ j ∈ Finset.range L, j ∉ Finset.range N → E j = 0 := fun j _ hj => by
    have : ¬ j ≤ i := by have := Finset.mem_range.not.mp hj; omega
    exact if_neg this
  have hsub : Finset.range N ⊆ Finset.range L := Finset.range_subset_range.mpr hN
  let S : ℝ := ∑ j ∈ Finset.range N, E j
  have hS : 0 < S := Finset.sum_pos' (fun j _ => hE0 j) ⟨i, Finset.mem_range.mpr hi, by
    show 0 < (if i ≤ i then Real.exp (z i - M) else 0)
    rw [if_pos le_rfl]; exact Real.exp_pos _⟩
  have e1 : ∑ j ∈ Finset.range N, 1 * Ideal.exp2 (causal i σ j - (m : EReal)) = ((κ * S : ℝ) : EReal) := by
    rw [show κ * S = ∑ j ∈ Finset.range N, κ * E j from Finset.mul_sum _ _ _, coe_sum]
    exact Finset.sum_congr rfl fun j _ => by rw [hκ, one_mul]
  have e2 : ∑ j ∈ Finset.range L, Ideal.exp (causal i z j - (M : EReal)) = (S : EReal) := by
    rw [show S = ∑ j ∈ Finset.range L, E j from Finset.sum_subset hsub hEL, coe_sum]
    exact Finset.sum_congr rfl fun j _ => hexp j
  rw [e1, e2, Ideal.div_coe (mul_pos hκ0 hS).ne', sum_mul _ (by positivity)]
  rw [← Finset.sum_subset hsub (f := fun j => v j * Ideal.div (Ideal.exp (causal i z j - (M : EReal))) (S : EReal)) fun j h1 h2 => by
    rw [hexp, hEL j h1 h2, Ideal.div_coe hS.ne', EReal.coe_zero, zero_mul, mul_zero]]
  refine Finset.sum_congr rfl fun j _ => ?_
  rw [hexp, hκ, Ideal.div_coe hS.ne', mul_assoc, ← EReal.coe_mul, ← EReal.coe_mul]
  congr 2
  field_simp

/-- A sum over the keys up to tile `k + 1` is the one up to tile `k` and tile `k`'s. -/
theorem sum_tile (k : ℕ) (f : ℕ → EReal) :
    ∑ j ∈ Finset.range (512 * (k + 1)), f j = ∑ j ∈ Finset.range (512 * k), f j + ∑ y : Fin 512, f (512 * k + y.val) := by
  rw [show 512 * (k + 1) = 512 * k + 512 from by ring, Finset.sum_range_add, Finset.sum_range (fun x => f (512 * k + x))]

end Cert.Attn

end
-- ==== Proof.AttnTile.lean ====
module

public import proofs.«01_k».proof.Proof.AttnBody
public import proofs.«01_k».proof.Proof.AttnMath
public import Idealize.ShloMosaic.Lib.MatmulPlain
public import Idealize.ShloMosaic.Lib.WordCmp
public import Idealize.ShloMosaic.PureOps.Ideal.Laws
public import Idealize.ShloMosaic.Lib.Pipeline.Value

@[expose] public section

noncomputable section

/-! The value of an output tile, read element by element. -/

namespace Cert.Kernel2Ideal.Attn

open Cert.Kernel2Ideal Cert.Kernel2Ideal.Gen Cert.Attn
open Idealize.ShloMosaic Idealize.ShloMosaic.ValueIdx

theorem mask_eq : (Named.named κ "mask" 0xF149F2CA#32 : Ideal .f32) = ⊥ := rfl

theorem zero_eq : (FloatOps.ofBits .f32 0x00000000#32 : Ideal .f32) = 0 := Ideal.ofBits_zero_f32

theorem ninf_eq : (FloatOps.ofBits .f32 0xFF800000#32 : Ideal .f32) = ⊥ := by
  show Ideal.ieee 8 23 (0xFF800000#32 : BitVec 32) = ⊥
  unfold Ideal.ieee
  simp

/-- Dropping two unit axes. -/
theorem cast_11 {a b : ℕ} {α : Type} (x : (⟨4, ![1, 1, a, b]⟩ : Shape).Idx → α) (h : (⟨4, ![1, 1, a, b]⟩ : Shape).ShapeCasts ⟨2, ![a, b]⟩) (i : Fin a) (j : Fin b) :
    shapeCast ⟨2, ![a, b]⟩ x h (ix2 i j) = x (ix4 0 0 i j) :=
  shapeCast_apply x h _ _ (by rw [Shape.rowMajor_val_four, Shape.rowMajor_val_two]; show ((0 * 1 + 0) * a + i.val) * b + j.val = i.val * b + j.val; simp)

theorem scores_apply (q : Vec Ideal S1x1x128x512 .bf16) (k : Vec Ideal S1x1x512x128 .bf16) (j r : Fin 512) :
    scores q k (ix2 j r) = ∑ e : Fin 128, (k (ix4 0 0 j e) : EReal) * q (ix4 0 0 e r) := by
  have hd : dot_S512x128_S128x512_S512x512_1_0_0_1_n_n = DotDims.plain 512 128 512 := rfl
  unfold scores
  simp only [matmul]
  rw [hd]
  refine (Ideal.matmul_plain_apply _ _ _ _ _ _).trans ?_
  rw [show (constant S512x512 .f32 0x00000000#32 : FVec Ideal S512x512 .f32) (ix2 j r) = 0 from zero_eq, zero_add]
  refine Finset.sum_congr rfl fun e _ => ?_
  rw [cast_11 k shapeCasts_S1x1x512x128_S512x128, cast_11 q shapeCasts_S1x1x128x512_S128x512]

theorem sel_le (a b : ℕ) (ha : a < 2 ^ 31) (hb : b < 2 ^ 31) (x y : EReal) :
    Scalar.select (IntOp.cmpi .sle (BitVec.ofNat 32 a) (BitVec.ofNat 32 b)) x y = if a ≤ b then x else y := by
  rw [Idealize.ShloMosaic.WordCmp.cmpi_sle_ofNat ha hb]
  by_cases h : a ≤ b
  · simp [h, select_one]
  · simp [h, select_zero]

theorem masked_apply (s : FVec Ideal S512x512 .f32) (j r : Fin 512) : masked s (ix2 j r) = if j.val ≤ r.val then s (ix2 j r) else (⊥ : EReal) := by
  unfold masked
  rw [select_apply]
  have e : cmpi .sle (iota .tc S512x512 32 [0] iota_S512x512_d0_w32) (iota .tc S512x512 32 [1] iota_S512x512_d1_w32) (ix2 j r)
      = IntOp.cmpi .sle (BitVec.ofNat 32 j.val) (BitVec.ofNat 32 r.val) := by
    show IntOp.cmpi .sle (BitVec.ofNat 32 (0 * 512 + j.val)) (BitVec.ofNat 32 (0 * 512 + r.val)) = _
    rw [Nat.zero_mul, Nat.zero_add, Nat.zero_add]
  rw [e]
  exact sel_le j.val r.val (by omega) (by omega) _ _

theorem nextMax_apply (s : FVec Ideal S512x512 .f32) (m : FVec Ideal S1x512 .f32) (r : Fin 512) :
    nextMax s m (ix2 0 r) = max (m (ix2 0 r) : EReal) ((Finset.univ : Finset (Fin 512)).fold max ⊥ fun j => (s (ix2 j r) : EReal)) := by
  unfold nextMax
  rw [maximumf_apply, shapeCast_a_1a_apply]
  refine congrArg (max (m (ix2 0 r) : EReal)) ((Ideal.multiReduction_maximumf_single s _ reduces_S512x512_S512 _ _ (ix1 r)).trans ?_)
  rw [ninf_eq]
  refine congrArg (fun f => (Finset.univ : Finset (Fin 512)).fold max (⊥ : EReal) f) (funext fun j => ?_)
  refine congrArg s (funext fun a => ?_)
  match a with
  | ⟨0, _⟩ => rfl
  | ⟨1, _⟩ => rfl

theorem nextSum_apply (s : FVec Ideal S512x512 .f32) (v : Vec Ideal S1x1x80x512 .bf16) (m m' : FVec Ideal S1x512 .f32) (acc : FVec Ideal S80x512 .f32)
    (d : Fin 80) (r : Fin 512) :
    nextSum s v m m' acc (ix2 d r) = Ideal.exp2 ((m (ix2 0 r) : EReal) - m' (ix2 0 r)) * acc (ix2 d r)
      + ∑ j : Fin 512, (v (ix4 0 0 d j) : EReal) * Ideal.exp2 ((s (ix2 j r) : EReal) - m' (ix2 0 r)) := by
  have hd : dot_S80x512_S512x512_S80x512_1_0_0_1_n_n = DotDims.plain 80 512 512 := rfl
  unfold nextSum
  rw [addf_apply, mulf_apply]
  simp only [matmul]
  rw [hd]
  refine congrArg₂ (· + ·) ?_ ((Ideal.matmul_plain_apply _ _ _ _ _ _).trans ?_)
  · rw [broadcastTo_apply _ broadcasts_S1x512_S80x512 (ix2 d r) (ix2 0 r) (by intro a; fin_cases a <;> simp)]
    rfl
  · rw [show (constant S80x512 .f32 0x00000000#32 : FVec Ideal S80x512 .f32) (ix2 d r) = 0 from zero_eq, zero_add]
    refine Finset.sum_congr rfl fun j _ => ?_
    rw [cast_11 v shapeCasts_S1x1x80x512_S80x512]
    refine congrArg _ ?_
    show Ideal.exp2 ((s (ix2 j r) : EReal) - broadcastTo S512x512 m' broadcasts_S1x512_S512x512 (ix2 j r)) = _
    rw [broadcastTo_apply _ broadcasts_S1x512_S512x512 (ix2 j r) (ix2 0 r) (by intro a; fin_cases a <;> simp)]

theorem divide_apply (acc : FVec Ideal S80x512 .f32) (d : Fin 64) (r : Fin 512) :
    divide acc (ix2 d r) = Ideal.div (acc (ix2 ⟨d.val, by omega⟩ r)) (acc (ix2 ⟨64, by omega⟩ r)) := by
  unfold divide
  show Ideal.div _ (broadcastTo S64x512 _ broadcasts_S1x512_S64x512 (ix2 d r)) = _
  rw [broadcastTo_apply _ broadcasts_S1x512_S64x512 (ix2 d r) (ix2 0 r) (by intro a; fin_cases a <;> simp)]
  refine congrArg₂ Ideal.div (congrArg acc (funext fun a => ?_)) (congrArg acc (funext fun a => ?_)) <;> fin_cases a <;> simp

/-- One tile folded in, at a column whose scores have a real maximum. -/
theorem fold_apply (s : FVec Ideal S512x512 .f32) (v : Vec Ideal S1x1x80x512 .bf16) (cr : Carry Ideal) (r : Fin 512) (σ : ℕ → ℝ) (V : Fin 80 → ℕ → EReal)
    (k : ℕ) (t : ℕ → EReal) (hs : ∀ j : Fin 512, s (ix2 j r) = t (512 * k + j.val)) (ht : ∀ j, t j ≠ ⊤) (j0 : Fin 512) (ht0 : t (512 * k + j0.val) ≠ ⊥)
    (hlt : ∀ j, j < 512 * k → t j = σ j)
    (hv : ∀ (d : Fin 80) (j : Fin 512), v (ix4 0 0 d j) = V d (512 * k + j.val))
    (hm : (k = 0 ∧ cr.1 (ix2 0 r) = (⊥ : EReal)) ∨ ∃ x : ℝ, cr.1 (ix2 0 r) = (x : EReal))
    (ha : ∀ d, cr.2 (ix2 d r) = ∑ j ∈ Finset.range (512 * k), V d j * Ideal.exp2 ((σ j : EReal) - cr.1 (ix2 0 r))) :
    ∃ x : ℝ, (fold s v cr).1 (ix2 0 r) = (x : EReal)
      ∧ ∀ d, (fold s v cr).2 (ix2 d r) = ∑ j ∈ Finset.range (512 * (k + 1)), V d j * Ideal.exp2 (t j - (x : EReal)) := by
  have hmt : (cr.1 (ix2 0 r) : EReal) ≠ ⊤ := by
    rcases hm with ⟨-, h⟩ | ⟨x, h⟩ <;> rw [h]
    · exact bot_ne_top
    · exact EReal.coe_ne_top x
  obtain ⟨x, hx⟩ := max_real (cr.1 (ix2 0 r) : EReal) ((Finset.univ : Finset (Fin 512)).fold max ⊥ fun j => (s (ix2 j r) : EReal)) hmt
    (fold_max_real _ _ _ bot_ne_top (fun j _ => by rw [hs]; exact ht _) (Or.inr ⟨j0, Finset.mem_univ _, by rw [hs]; exact ht0⟩))
  have hx' : (nextMax s cr.1 (ix2 0 r) : EReal) = x := (nextMax_apply s cr.1 r).trans hx
  refine ⟨x, hx', fun d => ?_⟩
  show nextSum s v cr.1 (nextMax s cr.1) cr.2 (ix2 d r) = _
  rw [nextSum_apply, hx', ha, rescale _ σ (V d) _ x (hm.imp (fun h => by rw [h.1]) id), sum_tile]
  refine congrArg₂ (· + ·) (Finset.sum_congr rfl fun j hj => ?_) (Finset.sum_congr rfl fun j _ => ?_)
  · rw [hlt j (Finset.mem_range.mp hj)]
  · rw [hv, hs]

section Column

variable (X2 : Vec Ideal S1x1x128x8192 .bf16) (X3 : Vec Ideal S1x1x8192x128 .bf16) (X4 : Vec Ideal S1x1x80x8192 .bf16)
  (Q K : ℕ → Fin 128 → ℝ) (V : Fin 80 → ℕ → EReal)
  (h2 : ∀ (e : Fin 128) (i : Fin 8192), X2 (ix4 0 0 e i) = (Q i.val e : EReal))
  (h3 : ∀ (j : Fin 8192) (e : Fin 128), X3 (ix4 0 0 j e) = (K j.val e : EReal))
  (h4 : ∀ (d : Fin 80) (j : Fin 8192), X4 (ix4 0 0 d j) = V d j.val)

/-- A key's score at a query. -/
def dot (i j : ℕ) : ℝ := ∑ e : Fin 128, K j e * Q i e

include h2 in
theorem qTile_apply (n : Fin 16) (e : Fin 128) (r : Fin 512) : qTile X2 n (ix4 0 0 e r) = (Q (512 * n.val + r.val) e : EReal) := by
  have := n.isLt; have := r.isLt
  refine Eq.trans (congrArg X2 (funext fun a => ?_)) (h2 e ⟨512 * n.val + r.val, by omega⟩)
  match a with
  | ⟨0, _⟩ => rfl
  | ⟨1, _⟩ => rfl
  | ⟨2, _⟩ => exact Fin.ext (by show 0 + 1 * e.val = e.val; omega)
  | ⟨3, _⟩ => exact Fin.ext (by show 512 * n.val + 1 * r.val = 512 * n.val + r.val; omega)
include h3 in
theorem kTile_apply (n : Fin 16) (j : Fin 512) (e : Fin 128) : kTile X3 n (ix4 0 0 j e) = (K (512 * n.val + j.val) e : EReal) := by
  have := n.isLt; have := j.isLt
  refine Eq.trans (congrArg X3 (funext fun a => ?_)) (h3 ⟨512 * n.val + j.val, by omega⟩ e)
  match a with
  | ⟨0, _⟩ => rfl
  | ⟨1, _⟩ => rfl
  | ⟨2, _⟩ => exact Fin.ext (by show 512 * n.val + 1 * j.val = 512 * n.val + j.val; omega)
  | ⟨3, _⟩ => exact Fin.ext (by show 0 + 1 * e.val = e.val; omega)
include h4 in
theorem vTile_apply (n : Fin 16) (d : Fin 80) (j : Fin 512) : vTile X4 n (ix4 0 0 d j) = V d (512 * n.val + j.val) := by
  have := n.isLt; have := j.isLt
  refine Eq.trans (congrArg X4 (funext fun a => ?_)) (h4 d ⟨512 * n.val + j.val, by omega⟩)
  match a with
  | ⟨0, _⟩ => rfl
  | ⟨1, _⟩ => rfl
  | ⟨2, _⟩ => exact Fin.ext (by show 0 + 1 * d.val = d.val; omega)
  | ⟨3, _⟩ => exact Fin.ext (by show 512 * n.val + 1 * j.val = 512 * n.val + j.val; omega)

include h2 h3 in
theorem scores_tile (n k : Fin 16) (j r : Fin 512) :
    scores (qTile X2 n) (kTile X3 k) (ix2 j r) = (dot Q K (512 * n.val + r.val) (512 * k.val + j.val) : EReal) := by
  rw [scores_apply, dot, coe_sum]
  refine Finset.sum_congr rfl fun e _ => ?_
  rw [qTile_apply X2 Q h2, kTile_apply X3 K h3, EReal.coe_mul]

include h2 h3 h4 in
/-- The carried values of a column after `k` tiles of keys. -/
theorem carry_column (n : Fin 16) (r : Fin 512) (k : ℕ) (hk : k ≤ 16) :
    ((k = 0 ∧ (carryAt (qTile X2 n) X3 X4 k).1 (ix2 0 r) = (⊥ : EReal)) ∨ ∃ x : ℝ, (carryAt (qTile X2 n) X3 X4 k).1 (ix2 0 r) = (x : EReal))
      ∧ ∀ d, (carryAt (qTile X2 n) X3 X4 k).2 (ix2 d r) = ∑ j ∈ Finset.range (512 * k),
          V d j * Ideal.exp2 ((dot Q K (512 * n.val + r.val) j : EReal) - (carryAt (qTile X2 n) X3 X4 k).1 (ix2 0 r)) := by
  induction k with
  | zero =>
    refine ⟨Or.inl ⟨rfl, mask_eq⟩, fun d => ?_⟩
    rw [Nat.mul_zero, Finset.sum_range_zero]
    exact zero_eq
  | succ k ih =>
    obtain ⟨hm, ha⟩ := ih (by omega)
    rw [carryAt_succ _ _ _ _ (show k < 16 by omega)]
    obtain ⟨x, hx, hs⟩ := fold_apply (scores (qTile X2 n) (kTile X3 ⟨k, by omega⟩)) (vTile X4 ⟨k, by omega⟩) (carryAt (qTile X2 n) X3 X4 k) r
      (dot Q K (512 * n.val + r.val)) V k (fun j => (dot Q K (512 * n.val + r.val) j : EReal))
      (fun j => scores_tile X2 X3 Q K h2 h3 n ⟨k, by omega⟩ j r) (fun j => EReal.coe_ne_top _) 0 (EReal.coe_ne_bot _) (fun _ _ => rfl)
      (fun d j => vTile_apply X4 V h4 ⟨k, by omega⟩ d j) hm ha
    exact ⟨Or.inr ⟨x, hx⟩, fun d => by rw [hs, hx]⟩

include h2 h3 h4 in
/-- An element of an output tile: the weighted sum over the keys of the tiles up to the query's, divided by the weighted sum of row 64. -/
theorem outTile_apply (n : Fin 16) (r : Fin 512) (d : Fin 64) :
    ∃ x : ℝ, outTile X2 X3 X4 n (ix2 d r)
      = Ideal.div (∑ j ∈ Finset.range (512 * (n.val + 1)), V ⟨d.val, by omega⟩ j * Ideal.exp2 (causal (512 * n.val + r.val) (dot Q K (512 * n.val + r.val)) j - (x : EReal)))
          (∑ j ∈ Finset.range (512 * (n.val + 1)), V ⟨64, by omega⟩ j * Ideal.exp2 (causal (512 * n.val + r.val) (dot Q K (512 * n.val + r.val)) j - (x : EReal))) := by
  obtain ⟨hm, ha⟩ := carry_column X2 X3 X4 Q K V h2 h3 h4 n r n.val n.isLt.le
  obtain ⟨x, -, hs⟩ := fold_apply (masked (scores (qTile X2 n) (kTile X3 n))) (vTile X4 n) (carryAt (qTile X2 n) X3 X4 n.val) r
    (dot Q K (512 * n.val + r.val)) V n.val (causal (512 * n.val + r.val) (dot Q K (512 * n.val + r.val)))
    (fun j => by
      rw [masked_apply, scores_tile X2 X3 Q K h2 h3, causal]
      by_cases h : j.val ≤ r.val
      · rw [if_pos h, if_pos (by omega)]
      · rw [if_neg h, if_neg (by omega)])
    (fun j => by unfold causal; split; exacts [EReal.coe_ne_top _, bot_ne_top]) r (by unfold causal; rw [if_pos le_rfl]; exact EReal.coe_ne_bot _)
    (fun j hj => by unfold causal; rw [if_pos (by omega)]) (fun d j => vTile_apply X4 V h4 n d j) hm ha
  refine ⟨x, ?_⟩
  unfold outTile
  rw [divide_apply, hs, hs]

end Column

end Cert.Kernel2Ideal.Attn

end
-- ==== Proof.AttnHost.lean ====
module

public import proofs.«01_k».proof.Proof.AttnRun
public import proofs.«01_k».proof.Proof.AttnTile
public import Idealize.ShloMosaic.Lib.StableHlo.ReadAt
public import Idealize.ShloMosaic.Lib.Claim
public import Idealize.ShloMosaic.Lib.Pointwise
import Idealize.ShloMosaic.Lib.Pipeline.ValueKit

@[expose] public section

noncomputable section

namespace Cert.Kernel2Ideal.Attn

open Cert.Kernel2Ideal Cert.Kernel2Ideal.Gen Cert.Attn
open Idealize.ShloMosaic Idealize.ShloMosaic.TcCoe

variable (m : (ℓ : Loc nD τ sig) → Buf (Elt Ideal) ℓ)

/-! ## The launch's operands -/

theorem flat {α : Type*} (l : List α) : [l].flatten = l := by simp

theorem V_v16 (c : Dev nD) (b : Fin 4) (h : Fin 16) (e : Fin 128) (i : Fin 8192) :
    (V m c main_v16 : Vec Ideal S4x16x128x8192 .bf16) (ix4 b h e i) = if h1 : e.val < 96 then
      (if h2 : e.val < 64 then (m ((c : Thread nD τ).loc main_arg0) : Vec Ideal S4x8192x16x64 .f32) (ix4 b i h ⟨e.val, h2⟩)
        else (m ((c : Thread nD τ).loc main_arg1) : Vec Ideal S4x8192x16x32 .f32) (ix4 b i h ⟨e.val - 64, by omega⟩) : EReal)
        * Ideal.ofBits .f32 0x3DD105EC#32 * Ideal.div 1 (Ideal.log (Ideal.ofBits .f32 0x40000000#32)) else (0 : EReal) := by
  unfold V V0
  rw [flat]
  repeat after_reads_at

theorem V_v18 (c : Dev nD) (b : Fin 4) (h : Fin 16) (i : Fin 8192) (e : Fin 128) :
    (V m c main_v18 : Vec Ideal S4x16x8192x128 .bf16) (ix4 b h i e) = if h1 : e.val < 64 then
        (m ((c : Thread nD τ).loc main_arg2) : Vec Ideal S4x8192x16x64 .f32) (ix4 b i h ⟨e.val, h1⟩)
      else if h2 : e.val - 64 < 32 then (m ((c : Thread nD τ).loc main_arg3) : Vec Ideal S4x8192x32 .f32) (ix3 b i ⟨e.val - 64, h2⟩) else (0 : EReal) := by
  unfold V V0
  rw [flat]
  repeat after_reads_at

theorem V_v20 (c : Dev nD) (b : Fin 4) (h : Fin 16) (d : Fin 80) (i : Fin 8192) :
    (V m c main_v20 : Vec Ideal S4x16x80x8192 .bf16) (ix4 b h d i) = if h1 : d.val < 64 then
        (m ((c : Thread nD τ).loc main_arg4) : Vec Ideal S4x8192x16x64 .f32) (ix4 b i h ⟨d.val, h1⟩) else (1 : EReal) := by
  unfold V V0
  rw [flat]
  repeat after_reads_at

/-! ## A point's blocks -/

theorem transform0 (i : grid0.Coords) (a : Fin 4) : cc0_transform_0 i a = ![(i 0).val, (i 1).val, 0, 0] a := by
  have h0 : (i 0).val < 4 := (i 0).isLt
  have h1 : (i 1).val < 16 := (i 1).isLt
  fin_cases a <;> simp [cc0_transform_0] <;> omega

variable (c : Dev nD) (t : Fin cfg0.N)

/-- The batch row of a point, -/
def pb : Fin 4 := ⟨(grid0.coords t 0).val, (grid0.coords t 0).isLt⟩
/-- and its head. -/
def ph : Fin 16 := ⟨(grid0.coords t 1).val, (grid0.coords t 1).isLt⟩

theorem iblk0 (e : Fin 128) (i : Fin 8192) : (iblk m c 0 t : Vec Ideal S1x1x128x8192 .bf16) (ix4 0 0 e i)
    = (V m c main_v16 : Vec Ideal S4x16x128x8192 .bf16) (ix4 (pb t) (ph t) e i) := by
  unfold iblk
  refine (View.read_apply _ _).trans ?_
  show V m c main_v16 _ = _
  refine congrArg (V m c main_v16) (funext fun a => ?_)
  have ht := transform0 (grid0.coords t)
  match a with
  | ⟨0, _⟩ => exact Fin.ext (by show cc0_transform_0 (grid0.coords t) 0 * 1 + 1 * 0 = _; rw [ht]; simp [pb])
  | ⟨1, _⟩ => exact Fin.ext (by show cc0_transform_0 (grid0.coords t) 1 * 1 + 1 * 0 = _; rw [ht]; simp [ph])
  | ⟨2, _⟩ => exact Fin.ext (by show cc0_transform_0 (grid0.coords t) 2 * 128 + 1 * e.val = _; rw [ht]; simp)
  | ⟨3, _⟩ => exact Fin.ext (by show cc0_transform_0 (grid0.coords t) 3 * 8192 + 1 * i.val = _; rw [ht]; simp)

theorem iblk1 (i : Fin 8192) (e : Fin 128) : (iblk m c 1 t : Vec Ideal S1x1x8192x128 .bf16) (ix4 0 0 i e)
    = (V m c main_v18 : Vec Ideal S4x16x8192x128 .bf16) (ix4 (pb t) (ph t) i e) := by
  unfold iblk
  refine (View.read_apply _ _).trans ?_
  show V m c main_v18 _ = _
  refine congrArg (V m c main_v18) (funext fun a => ?_)
  have ht := transform0 (grid0.coords t)
  match a with
  | ⟨0, _⟩ => exact Fin.ext (by show cc0_transform_0 (grid0.coords t) 0 * 1 + 1 * 0 = _; rw [ht]; simp [pb])
  | ⟨1, _⟩ => exact Fin.ext (by show cc0_transform_0 (grid0.coords t) 1 * 1 + 1 * 0 = _; rw [ht]; simp [ph])
  | ⟨2, _⟩ => exact Fin.ext (by show cc0_transform_0 (grid0.coords t) 2 * 8192 + 1 * i.val = _; rw [ht]; simp)
  | ⟨3, _⟩ => exact Fin.ext (by show cc0_transform_0 (grid0.coords t) 3 * 128 + 1 * e.val = _; rw [ht]; simp)

theorem iblk2 (d : Fin 80) (i : Fin 8192) : (iblk m c 2 t : Vec Ideal S1x1x80x8192 .bf16) (ix4 0 0 d i)
    = (V m c main_v20 : Vec Ideal S4x16x80x8192 .bf16) (ix4 (pb t) (ph t) d i) := by
  unfold iblk
  refine (View.read_apply _ _).trans ?_
  show V m c main_v20 _ = _
  refine congrArg (V m c main_v20) (funext fun a => ?_)
  have ht := transform0 (grid0.coords t)
  match a with
  | ⟨0, _⟩ => exact Fin.ext (by show cc0_transform_0 (grid0.coords t) 0 * 1 + 1 * 0 = _; rw [ht]; simp [pb])
  | ⟨1, _⟩ => exact Fin.ext (by show cc0_transform_0 (grid0.coords t) 1 * 1 + 1 * 0 = _; rw [ht]; simp [ph])
  | ⟨2, _⟩ => exact Fin.ext (by show cc0_transform_0 (grid0.coords t) 2 * 80 + 1 * d.val = _; rw [ht]; simp)
  | ⟨3, _⟩ => exact Fin.ext (by show cc0_transform_0 (grid0.coords t) 3 * 8192 + 1 * i.val = _; rw [ht]; simp)

/-! ## The result read back -/

/-- If every point leaves its part of `G`, the launch leaves `G`. -/
theorem launched_eq (G : Vec Ideal S4x1024x8192 .bf16)
    (hG : ∀ (t : Fin cfg0.N) (y : S1x64x8192.Idx), outAt m c t y = G (ix3 (pb t) ⟨64 * (ph t).val + (y 1).val, by
      have h1 := (ph t).isLt; have h2 : (y 1).val < 64 := (y 1).isLt; omega⟩ ⟨(y 2).val, (y 2).isLt⟩)) :
    launched m c = G := by
  unfold launched
  refine (dats m 0 c).arrAt_eq_of_covers 3 G (by decide +kernel) fun t _ y => ?_
  have h0 : (y 0).val = 0 := by have h : (y 0).val < 1 := (y 0).isLt; omega
  refine Eq.trans ?_ ((hG t y).trans (congrArg G (funext fun a => ?_)))
  · rw [after0_3]; rfl
  have ht : ∀ a : Fin 3, cc0_transform_3 (grid0.coords t) a = ![(grid0.coords t 0).val, (grid0.coords t 1).val, 0] a := fun a => by
    have h0 : (grid0.coords t 0).val < 4 := (grid0.coords t 0).isLt
    have h1 : (grid0.coords t 1).val < 16 := (grid0.coords t 1).isLt
    fin_cases a <;> simp [cc0_transform_3] <;> omega
  match a with
  | ⟨0, _⟩ => exact Fin.ext (by show _ = cc0_transform_3 (grid0.coords t) 0 * 1 + 1 * (y 0).val; rw [ht, h0]; simp [pb])
  | ⟨1, _⟩ => exact Fin.ext (by show _ = cc0_transform_3 (grid0.coords t) 1 * 64 + 1 * (y 1).val; rw [ht]; simp [ph]; omega)
  | ⟨2, _⟩ => exact Fin.ext (by show _ = cc0_transform_3 (grid0.coords t) 2 * 8192 + 1 * (y 2).val; rw [ht]; simp)

/-- The program's result: the launch's array widened and transposed. -/
theorem result_apply (b : Fin 4) (i : Fin 8192) (r : Fin 1024) :
    (Pipeline.afterTail₀ cfgs (dats m) 0 (V0 m) [hostOps1] c main_v23 : Vec Ideal S4x8192x1024 .f32) (ix3 b i r)
      = (launched m c : Vec Ideal S4x1024x8192 .bf16) (ix3 b r i) := by
  unfold Pipeline.afterTail₀
  rw [flat]
  after_reads_at
  exact congrFun (Pipeline.withArrays_arr spec0 (by decide) c (V0 m c) (fun w => (dats m 0 c).arrAt w cfg0.N) 3) _

end Cert.Kernel2Ideal.Attn

end
-- ==== Proof.AttnRef.lean ====
module

public import proofs.«01_k».proof.Proof.Gen.Reference2Ideal.Run
public import proofs.«01_k».proof.Proof.AttnMath
public import Idealize.ShloMosaic.Lib.ValueIdx
public import Idealize.ShloMosaic.Lib.IdealHost
public import Idealize.ShloMosaic.Lib.WordCmp
public import Idealize.ShloMosaic.Lib.Pointwise

@[expose] public section

noncomputable section

namespace Cert.Reference2Ideal.Attn

open Cert.Reference2Ideal Cert.Reference2Ideal.Gen Cert.Attn
open Idealize.ShloMosaic Idealize.ShloMosaic.TcCoe

variable (m : (ℓ : Loc nD τ sig) → Buf (Elt Ideal) ℓ)

/-- The masked scores. -/
def masked (q : FVec Ideal S4x8192x16x64 .f32) (qr : FVec Ideal S4x8192x16x32 .f32) (k : FVec Ideal S4x8192x16x64 .f32) (kr : FVec Ideal S4x8192x32 .f32) :
    FVec Ideal S4x16x8192x8192 .f32 :=
  select (broadcastInDim S4x16x8192x8192 ![2, 3] bcast_S8192x8192_S4x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (mulf (addf (Host.dotGeneral dot_S4x8192x16x64_S4x8192x16x64_S4x16x8192x8192_3_3_1_1_02_02 none q k : FVec Ideal S4x16x8192x8192 .f32)
      (transpose S4x16x8192x8192 [0, 3, 2, 1] (Host.dotGeneral dot_S4x8192x32_S4x8192x16x32_S4x8192x8192x16_2_3_1_12_0_0 none kr qr : FVec Ideal S4x8192x8192x16 .f32) transposes_S4x8192x8192x16_S4x16x8192x8192_0_3_2_1))
      (broadcastInDim S4x16x8192x8192 ![] bcast_S_S4x16x8192x8192 (constant S_ .f32 0x3DD105EC#32)))
    (broadcastInDim S4x16x8192x8192 ![] bcast_S_S4x16x8192x8192 (id (constant S_ .f32 0xFF800000#32 : FVec Ideal S_ .f32)))

/-- The largest score of each query. -/
def largest (x : FVec Ideal S4x16x8192x8192 .f32) : FVec Ideal S4x16x8192 .f32 :=
  maximumf (F := Ideal) (φ := .f32) (broadcastInDim S4x16x8192 ![] bcast_S_S4x16x8192 (constant S_ .f32 0xFF800000#32))
    (Host.reduce FloatOps.maximumf x (constant S_ .f32 0xFF800000#32) reducesTo_S4x16x8192x8192_S4x16x8192_d3 h_S_)

/-- Along a query's keys. -/
def along (x : FVec Ideal S4x16x8192 .f32) : FVec Ideal S4x16x8192x8192 .f32 :=
  broadcastInDim S4x16x8192x8192 ![0, 1, 2, 3] bcast_S4x16x8192x1_S4x16x8192x8192_0_1_2_3 (broadcastInDim S4x16x8192x1 ![0, 1, 2] bcast_S4x16x8192_S4x16x8192x1_0_1_2 x)

/-- The exponentials of the scores less the largest. -/
def exps (x : FVec Ideal S4x16x8192x8192 .f32) : FVec Ideal S4x16x8192x8192 .f32 := Host.exp (F := Ideal) (φ := .f32) (subf x (along (largest x)))

/-- The sum along a query's keys. -/
def total (w : FVec Ideal S4x16x8192x8192 .f32) : FVec Ideal S4x16x8192 .f32 :=
  Host.reduceAdd w (constant S_ .f32 0x00000000#32) reducesTo_S4x16x8192x8192_S4x16x8192_d3 h_S_

/-- The exponentials divided by their sum. -/
def probs (w : FVec Ideal S4x16x8192x8192 .f32) : FVec Ideal S4x16x8192x8192 .f32 :=
  Host.divf (F := Ideal) (φ := .f32) w (along (total w))

/-- The values weighted. -/
def weigh (v : FVec Ideal S4x8192x16x64 .f32) (p : FVec Ideal S4x16x8192x8192 .f32) : FVec Ideal S4x8192x1024 .f32 :=
  shapeCast _ (transpose S4x8192x16x64 [0, 3, 1, 2] (Host.dotGeneral dot_S4x8192x16x64_S4x16x8192x8192_S4x16x64x8192_1_3_3_2_02_01 none v p : FVec Ideal S4x16x64x8192 .f32) transposes_S4x16x64x8192_S4x8192x16x64_0_3_1_2) shapeCasts_S4x8192x16x64_S4x8192x1024

variable (q : FVec Ideal S4x8192x16x64 .f32) (qr : FVec Ideal S4x8192x16x32 .f32) (k : FVec Ideal S4x8192x16x64 .f32) (kr : FVec Ideal S4x8192x32 .f32)

theorem res_eq (c : Dev nD) : Value.res_main_v27 m c = weigh (m ((c.tc : Thread nD τ).loc main_arg4) : FVec Ideal S4x8192x16x64 .f32)
    (probs (exps (masked (m ((c.tc : Thread nD τ).loc main_arg0)) (m ((c.tc : Thread nD τ).loc main_arg1)) (m ((c.tc : Thread nD τ).loc main_arg2)) (m ((c.tc : Thread nD τ).loc main_arg3))))) := by
  unfold Value.res_main_v27 weigh probs total exps largest masked along
  rfl

theorem ninf_eq : (FloatOps.ofBits .f32 0xFF800000#32 : Ideal .f32) = ⊥ := by
  show Ideal.ieee 8 23 (0xFF800000#32 : BitVec 32) = ⊥
  unfold Ideal.ieee
  simp

theorem sel_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b
  · simp [h, ValueIdx.select_one]
  · simp [h, ValueIdx.select_zero]

theorem masked_apply (b : Fin 4) (h : Fin 16) (i j : Fin 8192) : masked q qr k kr (ix4 b h i j)
    = if j.val ≤ i.val then (∑ x : Fin 64, (q (ix4 b i h x) : EReal) * k (ix4 b j h x) + ∑ x : Fin 32, (kr (ix3 b j x) : EReal) * qr (ix4 b i h x)) * Ideal.ofBits .f32 0x3DD105EC#32
      else (⊥ : EReal) := by
  unfold masked
  pointwise
  rw [sel_le _ _ (by omega) (by omega)]
  exact congrArg (fun z => if j.val ≤ i.val then _ else z) ninf_eq

theorem red : S4x16x8192x8192.Reduces [3] S4x16x8192 := by decide

theorem reduceMax_single {s t u : Shape} {a : Fin s.rank} (x : FVec Ideal s .f32) (init : FVec Ideal u .f32) (h' : s.ReducesTo [a] t) (h : s.Reduces [a] t)
    (hu : 0 < u.numel) (j : t.Idx) : Host.reduce FloatOps.maximumf x init h' hu j
      = (Finset.univ : Finset (Fin (s.size a))).fold max (init (Shape.Idx.first hu) : EReal) (x ∘ h.lift j) :=
  Host.reduce_eq_fold_single (α := EReal) max x init h' h hu j

theorem max_apply (b : Fin 4) (h : Fin 16) (i : Fin 8192) (y : FVec Ideal S4x16x8192 .f32) :
    maximumf (F := Ideal) (φ := .f32) (broadcastInDim S4x16x8192 ![] bcast_S_S4x16x8192 (constant S_ .f32 0xFF800000#32)) y (ix3 b h i) = y (ix3 b h i) := by
  show max (FloatOps.ofBits .f32 0xFF800000#32 : Ideal .f32) (y (ix3 b h i) : EReal) = _
  rw [ninf_eq]
  exact max_eq_right bot_le

theorem largest_apply (x : FVec Ideal S4x16x8192x8192 .f32) (b : Fin 4) (h : Fin 16) (i : Fin 8192) :
    largest x (ix3 b h i) = (Finset.univ : Finset (Fin 8192)).fold max ⊥ fun j => (x (ix4 b h i j) : EReal) := by
  unfold largest
  rw [max_apply, reduceMax_single _ _ _ red]
  rw [show (constant S_ .f32 0xFF800000#32 : FVec Ideal S_ .f32) (Shape.Idx.first h_S_) = ⊥ from ninf_eq]
  have e : (x ∘ red.lift (ix3 b h i) : Fin 8192 → EReal) = fun j => (x (ix4 b h i j) : EReal) := funext fun j => congrArg x (funext fun a => by
    match a with
    | ⟨0, _⟩ => rfl
    | ⟨1, _⟩ => rfl
    | ⟨2, _⟩ => rfl
    | ⟨3, _⟩ => rfl)
  exact congrArg (fun f => (Finset.univ : Finset (Fin 8192)).fold max (⊥ : EReal) f) e

theorem along_apply (x : FVec Ideal S4x16x8192 .f32) (b : Fin 4) (h : Fin 16) (i j : Fin 8192) : along x (ix4 b h i j) = x (ix3 b h i) := by
  unfold along
  pointwise

theorem exps_apply (x : FVec Ideal S4x16x8192x8192 .f32) (b : Fin 4) (h : Fin 16) (i j : Fin 8192) :
    exps x (ix4 b h i j) = Ideal.exp ((x (ix4 b h i j) : EReal) - largest x (ix3 b h i)) := by
  rw [← along_apply (largest x) b h i j]; rfl

theorem total_apply (w : FVec Ideal S4x16x8192x8192 .f32) (b : Fin 4) (h : Fin 16) (i : Fin 8192) :
    total w (ix3 b h i) = ∑ j : Fin 8192, (w (ix4 b h i j) : EReal) := by
  unfold total
  rw [ValueIdx.hostReduceAdd_apply, Ideal.hostReduceAdd_single _ red,
    show (constant S_ .f32 0x00000000#32 : FVec Ideal S_ .f32) (Shape.Idx.first h_S_) = 0 from Ideal.ofBits_zero_f32, zero_add]
  refine Finset.sum_congr rfl fun j _ => congrArg w (funext fun a => ?_)
  match a with
  | ⟨0, _⟩ => rfl
  | ⟨1, _⟩ => rfl
  | ⟨2, _⟩ => rfl
  | ⟨3, _⟩ => rfl

theorem probs_apply (w : FVec Ideal S4x16x8192x8192 .f32) (b : Fin 4) (h : Fin 16) (i j : Fin 8192) :
    probs w (ix4 b h i j) = Ideal.div (w (ix4 b h i j)) (∑ j : Fin 8192, (w (ix4 b h i j) : EReal)) := by
  unfold probs
  rw [ValueIdx.hostDivf_apply, along_apply, total_apply]

theorem weigh_apply (v : FVec Ideal S4x8192x16x64 .f32) (p : FVec Ideal S4x16x8192x8192 .f32) (b : Fin 4) (h : Fin 16) (d : Fin 64) (i : Fin 8192) :
    weigh v p (ix3 b i ⟨64 * h.val + d.val, by omega⟩) = ∑ j : Fin 8192, (v (ix4 b j h d) : EReal) * p (ix4 b h i j) := by
  unfold weigh
  pointwise

/-- An element of the result: the values of its head's column weighted by the softmax of the causal scores. -/
theorem weigh_causal (v : FVec Ideal S4x8192x16x64 .f32) (b : Fin 4) (h : Fin 16) (d : Fin 64) (i : Fin 8192) (z : ℕ → ℝ) (V : ℕ → EReal)
    (hz : ∀ j : Fin 8192, (∑ x : Fin 64, (q (ix4 b i h x) : EReal) * k (ix4 b j h x) + ∑ x : Fin 32, (kr (ix3 b j x) : EReal) * qr (ix4 b i h x)) * Ideal.ofBits .f32 0x3DD105EC#32 = (z j.val : EReal))
    (hv : ∀ j : Fin 8192, (v (ix4 b j h d) : EReal) = V j.val) :
    ∃ M : ℝ, weigh v (probs (exps (masked q qr k kr))) (ix3 b i ⟨64 * h.val + d.val, by omega⟩)
      = ∑ j ∈ Finset.range 8192, V j * Ideal.div (Ideal.exp (causal i.val z j - (M : EReal))) (∑ j ∈ Finset.range 8192, Ideal.exp (causal i.val z j - (M : EReal))) := by
  have hm : ∀ j : Fin 8192, (masked q qr k kr (ix4 b h i j) : EReal) = causal i.val z j.val := fun j => by
    rw [masked_apply, hz]; rfl
  obtain ⟨M, hM⟩ : ∃ M : ℝ, (largest (masked q qr k kr) (ix3 b h i) : EReal) = M := by
    rw [largest_apply]
    refine fold_max_real _ _ _ bot_ne_top (fun j _ => ?_) (Or.inr ⟨i, Finset.mem_univ _, ?_⟩)
    · rw [hm]; unfold causal; split; exacts [EReal.coe_ne_top _, bot_ne_top]
    · rw [hm]; unfold causal; rw [if_pos le_rfl]; exact EReal.coe_ne_bot _
  have he : ∀ j : Fin 8192, (exps (masked q qr k kr) (ix4 b h i j) : EReal) = Ideal.exp (causal i.val z j.val - (M : EReal)) := fun j => by
    rw [exps_apply, hm, hM]
  have hs : ∑ j : Fin 8192, (exps (masked q qr k kr) (ix4 b h i j) : EReal) = ∑ j : Fin 8192, Ideal.exp (causal i.val z j.val - (M : EReal)) :=
    Finset.sum_congr rfl fun j _ => he j
  refine ⟨M, ?_⟩
  rw [weigh_apply, Finset.sum_range (n := 8192), Finset.sum_range (n := 8192)]
  refine Finset.sum_congr rfl fun j _ => ?_
  rw [hv, probs_apply, he]
  rw [hs]

end Cert.Reference2Ideal.Attn

end
-- ==== Proof.AttnValue.lean ====
module

public import proofs.«01_k».proof.Proof.AttnHost
public import proofs.«01_k».proof.Proof.AttnRef
public import proofs.«01_k».proof.Pre_scores_finite
public import Idealize.ShloMosaic.Lib.IdealHost

@[expose] public section

noncomputable section

/-! The attention program's result is the reference's. -/

namespace Cert.Pre_scores_finite

open Idealize.ShloMosaic

/-- The side conditions of the precondition's print. -/
theorem facts : Facts where
  bcast_S_S4x8192x16x64 := by decide
  bcast_S_S4x8192x16x32 := by decide
  bcast_S_S4x8192x32 := by decide

end Cert.Pre_scores_finite

namespace Cert.Kernel2Ideal.Attn

open Cert.Kernel2Ideal Cert.Kernel2Ideal.Gen Cert.Attn
open Idealize.ShloMosaic Idealize.ShloMosaic.TcCoe
open Cert.Reference2Ideal.Attn (weigh probs exps weigh_causal)

/-! ## The constants -/

theorem two_eq : Ideal.ofBits .f32 0x40000000#32 = ((2 : ℝ) : EReal) := by
  simp [Ideal.ofBits, Ideal.ieee, -EReal.coe_mul]; norm_num

theorem scale_real : ∃ s : ℝ, Ideal.ofBits .f32 0x3DD105EC#32 = (s : EReal) := by
  simp only [Ideal.ofBits, Ideal.ieee]
  rw [if_neg (by decide), if_neg (by decide)]
  exact ⟨_, rfl⟩

theorem inf_eq : Ideal.ofBits .f32 0x7F800000#32 = ⊤ := by
  simp [Ideal.ofBits, Ideal.ieee]

theorem log_two : Ideal.div 1 (Ideal.log (Ideal.ofBits .f32 0x40000000#32)) = ((1 / Real.log 2 : ℝ) : EReal) := by
  have hl : Real.log 2 ≠ 0 := (Real.log_pos (by norm_num)).ne'
  rw [two_eq, Ideal.log_coe, if_neg (by norm_num), Ideal.div_coe hl, one_mul]

/-! ## The precondition -/

/-- An array whose absolute values are below infinity is one of reals. -/
theorem reals {S : Shape} (a : FVec Ideal S .f32) (u : FVec Ideal S .f32) (hu : ∀ j, (u j : EReal) = Ideal.ofBits .f32 0x7F800000#32)
    (h : cmpf .olt (Host.absf a) u = fun _ => 1#1) : ∃ r : S.Idx → ℝ, ∀ j, (a j : EReal) = (r j : EReal) := by
  refine ⟨fun j => (a j : EReal).toReal, fun j => ?_⟩
  have hj : Ideal.cmp .olt (max (a j : EReal) (-(a j : EReal))) (u j) = 1#1 := congrFun h j
  rw [hu, inf_eq] at hj
  have hlt : max (a j : EReal) (-(a j : EReal)) < ⊤ := by
    by_contra hn
    simp [Ideal.cmp, hn] at hj
  have h1 : (a j : EReal) ≠ ⊤ := (lt_of_le_of_lt (le_max_left _ _) hlt).ne
  have h2 : (a j : EReal) ≠ ⊥ := fun hb => by
    have := (lt_of_le_of_lt (le_max_right _ _) hlt).ne
    rw [hb] at this
    exact this EReal.neg_bot
  exact (EReal.coe_toReal h1 h2).symm

/-! ## One point -/

/-- The 128 columns of a padded row: the 64, the 32, and zeros. -/
theorem sum_columns (f : Fin 128 → ℝ) (g : Fin 64 → ℝ) (h : Fin 32 → ℝ)
    (hf : ∀ e : Fin 128, f e = if h1 : e.val < 64 then g ⟨e.val, h1⟩ else if h2 : e.val - 64 < 32 then h ⟨e.val - 64, h2⟩ else 0) :
    ∑ e, f e = ∑ x, g x + ∑ x, h x := by
  rw [show ∑ e, f e = _ from Fin.sum_univ_add (a := 64) (b := 64) f, show ∑ x : Fin 64, f (Fin.natAdd 64 x) = _ from
    Fin.sum_univ_add (a := 32) (b := 32) (fun x : Fin 64 => f (Fin.natAdd 64 x))]
  refine congrArg₂ (· + ·) (Finset.sum_congr rfl fun x _ => ?_) ?_
  · rw [hf, dif_pos (by simp)]; rfl
  · refine Eq.trans (congrArg₂ (· + ·) (Finset.sum_congr rfl fun x _ => ?_) (Finset.sum_eq_zero fun x _ => ?_)) (add_zero _)
    · rw [hf, dif_neg (by simp), dif_pos (by simp)]
      exact congrArg h (Fin.ext (by simp))
    · rw [hf, dif_neg (by simp), dif_neg (by simp)]

/-- A number as a position of the sequence. -/
def pos (i : ℕ) : Fin 8192 := ⟨i % 8192, Nat.mod_lt _ (by norm_num)⟩

theorem pos_val (i : Fin 8192) : pos i.val = i := Fin.ext (Nat.mod_eq_of_lt i.isLt)

section Point

variable (q : FVec Ideal S4x8192x16x64 .f32) (qr : FVec Ideal S4x8192x16x32 .f32) (k : FVec Ideal S4x8192x16x64 .f32) (kr : FVec Ideal S4x8192x32 .f32)
  (v : FVec Ideal S4x8192x16x64 .f32)

/-- A tile's entry is the reference's. -/
theorem tile_eq (q' : S4x8192x16x64.Idx → ℝ) (qr' : S4x8192x16x32.Idx → ℝ) (k' : S4x8192x16x64.Idx → ℝ) (kr' : S4x8192x32.Idx → ℝ)
    (hq : ∀ j, (q j : EReal) = (q' j : EReal)) (hqr : ∀ j, (qr j : EReal) = (qr' j : EReal)) (hk : ∀ j, (k j : EReal) = (k' j : EReal)) (hkr : ∀ j, (kr j : EReal) = (kr' j : EReal))
    (b : Fin 4) (h : Fin 16) (X2 : Vec Ideal S1x1x128x8192 .bf16) (X3 : Vec Ideal S1x1x8192x128 .bf16) (X4 : Vec Ideal S1x1x80x8192 .bf16)
    (h2 : ∀ (e : Fin 128) (i : Fin 8192), (X2 (ix4 0 0 e i) : EReal) = if h1 : e.val < 96 then
      (if h2 : e.val < 64 then q (ix4 b i h ⟨e.val, h2⟩) else qr (ix4 b i h ⟨e.val - 64, by omega⟩) : EReal)
        * Ideal.ofBits .f32 0x3DD105EC#32 * Ideal.div 1 (Ideal.log (Ideal.ofBits .f32 0x40000000#32)) else (0 : EReal))
    (h3 : ∀ (i : Fin 8192) (e : Fin 128), (X3 (ix4 0 0 i e) : EReal) = if h1 : e.val < 64 then (k (ix4 b i h ⟨e.val, h1⟩) : EReal)
      else if h2 : e.val - 64 < 32 then kr (ix3 b i ⟨e.val - 64, h2⟩) else (0 : EReal))
    (h4 : ∀ (d : Fin 80) (i : Fin 8192), (X4 (ix4 0 0 d i) : EReal) = if h1 : d.val < 64 then (v (ix4 b i h ⟨d.val, h1⟩) : EReal) else (1 : EReal))
    (n : Fin 16) (r : Fin 512) (d : Fin 64) :
    (outTile X2 X3 X4 n (ValueIdx.ix2 d r) : EReal)
      = weigh v (probs (exps (Cert.Reference2Ideal.Attn.masked q qr k kr))) (ix3 b ⟨512 * n.val + r.val, by omega⟩ ⟨64 * h.val + d.val, by omega⟩) := by
  obtain ⟨s, hs⟩ := scale_real
  have hl : Real.log 2 ≠ 0 := (Real.log_pos (by norm_num)).ne'
  let Q : ℕ → Fin 128 → ℝ := fun i e => if h1 : e.val < 64 then q' (ix4 b (pos i) h ⟨e.val, h1⟩) * s * (1 / Real.log 2)
    else if h2 : e.val - 64 < 32 then qr' (ix4 b (pos i) h ⟨e.val - 64, h2⟩) * s * (1 / Real.log 2) else 0
  let K : ℕ → Fin 128 → ℝ := fun j e => if h1 : e.val < 64 then k' (ix4 b (pos j) h ⟨e.val, h1⟩)
    else if h2 : e.val - 64 < 32 then kr' (ix3 b (pos j) ⟨e.val - 64, h2⟩) else 0
  let V : Fin 80 → ℕ → EReal := fun d j => if h1 : d.val < 64 then (v (ix4 b (pos j) h ⟨d.val, h1⟩) : EReal) else 1
  have hQ : ∀ (e : Fin 128) (i : Fin 8192), (X2 (ValueIdx.ix4 0 0 e i) : EReal) = (Q i.val e : EReal) := fun e i => by
    refine (h2 e i).trans ?_
    show _ = ((if h1 : e.val < 64 then _ else if h2 : e.val - 64 < 32 then _ else 0 : ℝ) : EReal)
    rw [pos_val, log_two, hs]
    by_cases h1 : e.val < 64
    · rw [dif_pos (by omega), dif_pos h1, dif_pos h1, hq]; push_cast; rfl
    · by_cases h2 : e.val - 64 < 32
      · rw [dif_pos (by omega), dif_neg h1, dif_neg h1, dif_pos h2, hqr]; push_cast; rfl
      · rw [dif_neg (by omega), dif_neg h1, dif_neg h2]; rfl
  have hK : ∀ (j : Fin 8192) (e : Fin 128), (X3 (ValueIdx.ix4 0 0 j e) : EReal) = (K j.val e : EReal) := fun j e => by
    refine (h3 j e).trans ?_
    show _ = ((if h1 : e.val < 64 then _ else if h2 : e.val - 64 < 32 then _ else 0 : ℝ) : EReal)
    rw [pos_val]
    by_cases h1 : e.val < 64
    · rw [dif_pos h1, dif_pos h1, hk]
    · by_cases h2 : e.val - 64 < 32
      · rw [dif_neg h1, dif_neg h1, dif_pos h2, dif_pos h2, hkr]
      · rw [dif_neg h1, dif_neg h1, dif_neg h2, dif_neg h2]; rfl
  have hV : ∀ (d : Fin 80) (j : Fin 8192), (X4 (ValueIdx.ix4 0 0 d j) : EReal) = V d j.val := fun d j => by
    refine (h4 d j).trans ?_
    show _ = if h1 : d.val < 64 then (v (ix4 b (pos j.val) h ⟨d.val, h1⟩) : EReal) else 1
    rw [pos_val]
  have hi : 512 * n.val + r.val < 8192 := by omega
  let z : ℕ → ℝ := fun j => dot Q K (512 * n.val + r.val) j * Real.log 2
  obtain ⟨x, hx⟩ := outTile_apply X2 X3 X4 Q K V hQ hK hV n r d
  obtain ⟨M, hM⟩ := weigh_causal q qr k kr v b h d ⟨512 * n.val + r.val, hi⟩ z (V ⟨d.val, by omega⟩)
    (fun j => by
      have e : dot Q K (512 * n.val + r.val) j.val = ∑ x : Fin 64, k' (ix4 b j h x) * (q' (ix4 b ⟨512 * n.val + r.val, hi⟩ h x) * s * (1 / Real.log 2))
          + ∑ x : Fin 32, kr' (ix3 b j x) * (qr' (ix4 b ⟨512 * n.val + r.val, hi⟩ h x) * s * (1 / Real.log 2)) := by
        refine sum_columns _ _ _ fun e => ?_
        have hp : pos (512 * n.val + r.val) = ⟨512 * n.val + r.val, hi⟩ := pos_val ⟨512 * n.val + r.val, hi⟩
        show (if h1 : e.val < 64 then _ else if h2 : e.val - 64 < 32 then _ else 0 : ℝ) * (if h1 : e.val < 64 then _ else if h2 : e.val - 64 < 32 then _ else 0 : ℝ) = _
        rw [pos_val, hp]
        by_cases h1 : e.val < 64
        · rw [dif_pos h1, dif_pos h1, dif_pos h1]
        · by_cases h2 : e.val - 64 < 32
          · rw [dif_neg h1, dif_neg h1, dif_neg h1, dif_pos h2, dif_pos h2, dif_pos h2]
          · rw [dif_neg h1, dif_neg h1, dif_neg h1, dif_neg h2, dif_neg h2, dif_neg h2, zero_mul]
      have ez : z j.val = (∑ x : Fin 64, q' (ix4 b ⟨512 * n.val + r.val, hi⟩ h x) * k' (ix4 b j h x) + ∑ x : Fin 32, kr' (ix3 b j x) * qr' (ix4 b ⟨512 * n.val + r.val, hi⟩ h x)) * s := by
        show dot Q K (512 * n.val + r.val) j.val * Real.log 2 = _
        rw [e, add_mul, add_mul, Finset.sum_mul, Finset.sum_mul, Finset.sum_mul, Finset.sum_mul]
        refine congrArg₂ (· + ·) (Finset.sum_congr rfl fun x _ => ?_) (Finset.sum_congr rfl fun x _ => ?_)
        · field_simp
        · field_simp
      rw [ez, hs, EReal.coe_mul, EReal.coe_add, coe_sum, coe_sum]
      refine congrArg (fun x : EReal => x * (s : EReal)) (congrArg₂ (· + ·) (Finset.sum_congr rfl fun x _ => ?_) (Finset.sum_congr rfl fun x _ => ?_))
      · rw [hq, hk, EReal.coe_mul]
      · rw [hkr, hqr, EReal.coe_mul])
    (fun j => by
      show _ = if h1 : d.val < 64 then (v (ix4 b (pos j.val) h ⟨d.val, h1⟩) : EReal) else 1
      rw [pos_val, dif_pos d.isLt])
  have hN : 512 * (n.val + 1) ≤ 8192 := by omega
  have e := normalize (512 * n.val + r.val) (512 * (n.val + 1)) 8192 (by omega) hN z (dot Q K (512 * n.val + r.val))
    (fun j => by show _ = dot Q K (512 * n.val + r.val) j * Real.log 2 * (1 / Real.log 2); field_simp) x M (V ⟨d.val, by omega⟩)
  have h64 : V ⟨64, by omega⟩ = fun _ => 1 := funext fun j => dif_neg (by simp)
  rw [h64] at hx
  exact hx.trans (e.trans hM.symm)

end Point

/-! ## The program -/

variable (m : (ℓ : Loc nD τ sig) → Buf (Elt Ideal) ℓ)

/-- The arguments of the scores are reals. -/
structure Finite (m : (ℓ : Loc nD τ sig) → Buf (Elt Ideal) ℓ) : Prop where
  q (c : Dev nD) : ∃ r : S4x8192x16x64.Idx → ℝ, ∀ j, ((m ((c : Thread nD τ).loc main_arg0) : FVec Ideal S4x8192x16x64 .f32) j : EReal) = (r j : EReal)
  qr (c : Dev nD) : ∃ r : S4x8192x16x32.Idx → ℝ, ∀ j, ((m ((c : Thread nD τ).loc main_arg1) : FVec Ideal S4x8192x16x32 .f32) j : EReal) = (r j : EReal)
  k (c : Dev nD) : ∃ r : S4x8192x16x64.Idx → ℝ, ∀ j, ((m ((c : Thread nD τ).loc main_arg2) : FVec Ideal S4x8192x16x64 .f32) j : EReal) = (r j : EReal)
  kr (c : Dev nD) : ∃ r : S4x8192x32.Idx → ℝ, ∀ j, ((m ((c : Thread nD τ).loc main_arg3) : FVec Ideal S4x8192x32 .f32) j : EReal) = (r j : EReal)

/-- The reference's result on the program's arguments. -/
def want (c : Dev nD) : FVec Ideal S4x8192x1024 .f32 :=
  weigh (m ((c : Thread nD τ).loc main_arg4) : FVec Ideal S4x8192x16x64 .f32)
    (probs (exps (Cert.Reference2Ideal.Attn.masked (m ((c : Thread nD τ).loc main_arg0)) (m ((c : Thread nD τ).loc main_arg1)) (m ((c : Thread nD τ).loc main_arg2)) (m ((c : Thread nD τ).loc main_arg3)))))

/-- Each point leaves its head's part of the result. -/
theorem outAt_eq (hf : Finite m) (c : Dev nD) (t : Fin cfg0.N) (y : S1x64x8192.Idx) :
    (outAt m c t y : EReal) = want m c (ix3 (pb t) ⟨(y 2).val, (y 2).isLt⟩ ⟨64 * (ph t).val + (y 1).val, by
      have h1 := (ph t).isLt; have h2 : (y 1).val < 64 := (y 1).isLt; omega⟩) := by
  obtain ⟨q', hq⟩ := hf.q c
  obtain ⟨qr', hqr⟩ := hf.qr c
  obtain ⟨k', hk⟩ := hf.k c
  obtain ⟨kr', hkr⟩ := hf.kr c
  have y1 : (y 1).val < 64 := (y 1).isLt
  have y2 : (y 2).val < 8192 := (y 2).isLt
  have e := tile_eq _ _ _ _ (m ((c : Thread nD τ).loc main_arg4) : FVec Ideal S4x8192x16x64 .f32) q' qr' k' kr' hq hqr hk hkr (pb t) (ph t)
    (iblk m c 0 t) (iblk m c 1 t) (iblk m c 2 t)
    (fun e i => (iblk0 m c t e i).trans (V_v16 m c _ _ e i)) (fun i e => (iblk1 m c t i e).trans (V_v18 m c _ _ i e)) (fun d i => (iblk2 m c t d i).trans (V_v20 m c _ _ d i))
    ⟨(y 2).val / 512, by omega⟩ ⟨(y 2).val % 512, by omega⟩ ⟨(y 1).val, y1⟩
  refine Eq.trans ?_ (e.trans (congrArg (want m c) ?_))
  · rfl
  · refine congrArg (fun x => ix3 (pb t) x _) (Fin.ext ?_)
    exact Nat.div_add_mod _ _

theorem result_eq (hf : Finite m) (c : Dev nD) :
    (Pipeline.afterTail₀ cfgs (dats m) 0 (V0 m) [hostOps1] c main_v23 : Vec Ideal S4x8192x1024 .f32) = want m c := by
  funext x
  have hx : x = ix3 ⟨(x 0).val, (x 0).isLt⟩ ⟨(x 1).val, (x 1).isLt⟩ ⟨(x 2).val, (x 2).isLt⟩ := by
    funext a
    match a with
    | ⟨0, _⟩ => rfl
    | ⟨1, _⟩ => rfl
    | ⟨2, _⟩ => rfl
  rw [hx]
  refine (result_apply m c _ _ _).trans ?_
  refine (congrFun (launched_eq m c (fun j => want m c (ix3 ⟨(j 0).val, (j 0).isLt⟩ ⟨(j 2).val, (j 2).isLt⟩ ⟨(j 1).val, (j 1).isLt⟩))
    (fun t y => outAt_eq m hf c t y)) _).trans ?_
  rfl

end Cert.Kernel2Ideal.Attn

end
-- ==== Proof.OutprojRow.lean ====
module

public import Idealize.ShloMosaic.Lib.IdealHost

@[expose] public section

noncomputable section

/-! The layer norm of one row of 1024 numbers. -/

namespace Cert.Outproj

open Idealize.ShloMosaic

/-- The mean of a row. -/
def mean (a : Fin 1024 → EReal) : EReal := Ideal.div (∑ j, a j) (Ideal.ofBits .f32 0x44800000#32)

/-- An entry of a row after its norm, with its scale and shift. -/
def norm (a : Fin 1024 → EReal) (g b : EReal) (j : Fin 1024) : EReal :=
  (a j - mean a) * Ideal.rsqrt (mean (fun k => (a k - mean a) * (a k - mean a)) + Ideal.ofBits .f32 0x3727C5AC#32) * g + b

end Cert.Outproj

end
-- ==== Proof.OutprojTile.lean ====
module

public import proofs.«01_k».proof.Proof.Gen.Kernel3Ideal.Frame
public import proofs.«01_k».proof.Proof.Gen.Kernel3Ideal.Skeleton
public import proofs.«01_k».proof.Proof.OutprojRow
public import Idealize.ShloMosaic.Lib.ValueIdx
public import Idealize.ShloMosaic.Lib.IdealHost
public import Idealize.ShloMosaic.Lib.Pointwise
import Idealize.ShloMosaic.Lib.Pipeline.ValueKit

@[expose] public section

noncomputable section

/-! What one point of the output projection computes, element by element. -/

namespace Cert.Kernel3Ideal.Outproj

open Cert.Kernel3Ideal Cert.Kernel3Ideal.Gen Cert.Outproj
open Idealize.ShloMosaic Idealize.ShloMosaic.TcCoe

/-- The rows before the norm: the scaled residual plus the projection. -/
def pre (o : Vec Ideal S1x1024x512 .bf16) (w : Vec Ideal S1024x1024 .bf16) (x : Vec Ideal S512x1024 .f32) : FVec Ideal S512x1024 .f32 :=
  addf (mulf (broadcast S512x1024 (Scalar.ofBits (F := Ideal) .f32 0x3FD744FD#32)) (shapeCast S512x1024 x shapeCasts_S512x1024_S512x1024))
    (matmul dot_S1024x512_S1024x1024_S512x1024_0_0_1_1_n_n none (φ₁ := .bf16) (φ₂ := .bf16) (shapeCast S1024x512 o shapeCasts_S1x1024x512_S1024x512 : FVec Ideal S1024x512 .bf16)
      (shapeCast S1024x1024 w shapeCasts_S1024x1024_S1024x1024 : FVec Ideal S1024x1024 .bf16) (constant S512x1024 .f32 0x00000000#32))

/-- The mean of every row. -/
def means (a : FVec Ideal S512x1024 .f32) : FVec Ideal S512x1 .f32 :=
  divf (shapeCast S512x1 (multiReduction .add [1] S512 a 0x00000000#32 reduces_S512x1024_S512 (.inl rfl) rfl) shapeCasts_S512_S512x1)
    (broadcast S512x1 (Scalar.ofBits (F := Ideal) .f32 0x44800000#32))

/-- A value of every row, along the row. -/
def along (y : FVec Ideal S512x1 .f32) : FVec Ideal S512x1024 .f32 := broadcastTo S512x1024 y broadcasts_S512x1_S512x1024

/-- A vector on every row. -/
def onRows (g : Vec Ideal S1x1024 .f32) : FVec Ideal S512x1024 .f32 :=
  broadcastTo S512x1024 (shapeCast S1x1024 g shapeCasts_S1x1024_S1x1024) broadcasts_S1x1024_S512x1024

/-- The rows less their means. -/
def centered (a : FVec Ideal S512x1024 .f32) : FVec Ideal S512x1024 .f32 := subf a (along (means a))

/-- One over the deviation of every row. -/
def inverse (d : FVec Ideal S512x1024 .f32) : FVec Ideal S512x1 .f32 :=
  rsqrt (addf (means (mulf d d)) (broadcast S512x1 (Scalar.ofBits (F := Ideal) .f32 0x3727C5AC#32)))

/-- The norm of every row. -/
def normed (a : FVec Ideal S512x1024 .f32) (g b : Vec Ideal S1x1024 .f32) : FVec Ideal S512x1024 .f32 :=
  addf (mulf (mulf (centered a) (along (inverse (centered a)))) (onRows g)) (onRows b)

theorem pay_eq (o : Vec Ideal S1x1024x512 .bf16) (w : Vec Ideal S1024x1024 .bf16) (x : Vec Ideal S512x1024 .f32) (g b : Vec Ideal S1x1024 .f32) :
    k0_pay1 o w x g b = normed (pre o w x) g b := by
  unfold k0_pay1 normed inverse centered onRows along means pre
  rfl

theorem pre_apply (o : Vec Ideal S1x1024x512 .bf16) (w : Vec Ideal S1024x1024 .bf16) (x : Vec Ideal S512x1024 .f32) (i : Fin 512) (j : Fin 1024) :
    (pre o w x (ix2 i j) : EReal) = Ideal.ofBits .f32 0x3FD744FD#32 * x (ix2 i j) + ∑ k : Fin 1024, (o (ix3 0 k i) : EReal) * w (ix2 k j) := by
  unfold pre
  pointwise

theorem along_apply (y : FVec Ideal S512x1 .f32) (i : Fin 512) (j : Fin 1024) : along y (ix2 i j) = y (ix2 i 0) := by
  unfold along
  pointwise

theorem onRows_apply (g : Vec Ideal S1x1024 .f32) (i : Fin 512) (j : Fin 1024) : onRows g (ix2 i j) = g (ix2 0 j) := by
  unfold onRows
  pointwise

theorem means_apply (a : FVec Ideal S512x1024 .f32) (i : Fin 512) : (means a (ix2 i 0) : EReal) = mean fun j => (a (ix2 i j) : EReal) := by
  unfold means mean
  pointwise

theorem centered_apply (a : FVec Ideal S512x1024 .f32) (i : Fin 512) (j : Fin 1024) :
    (centered a (ix2 i j) : EReal) = a (ix2 i j) - mean fun j => (a (ix2 i j) : EReal) := by
  rw [← means_apply, ← along_apply (means a) i j]; rfl

theorem inverse_apply (d : FVec Ideal S512x1024 .f32) (i : Fin 512) :
    (inverse d (ix2 i 0) : EReal) = Ideal.rsqrt ((mean fun j => (d (ix2 i j) : EReal) * d (ix2 i j)) + Ideal.ofBits .f32 0x3727C5AC#32) := by
  have e := means_apply (mulf d d) i
  refine Eq.trans ?_ (congrArg (fun z : EReal => Ideal.rsqrt (z + Ideal.ofBits .f32 0x3727C5AC#32)) e)
  rfl

theorem normed_apply (a : FVec Ideal S512x1024 .f32) (g h : Vec Ideal S1x1024 .f32) (i : Fin 512) (j : Fin 1024) :
    (normed a g h (ix2 i j) : EReal) = norm (fun j => (a (ix2 i j) : EReal)) (g (ix2 0 j)) (h (ix2 0 j)) j := by
  have e : (normed a g h (ix2 i j) : EReal) = centered a (ix2 i j) * along (inverse (centered a)) (ix2 i j) * onRows g (ix2 i j) + onRows h (ix2 i j) := rfl
  rw [e, along_apply, onRows_apply, onRows_apply, inverse_apply]
  simp only [centered_apply]
  rfl

/-- The block a point leaves. -/
theorem out_apply (x0 : Vec Ideal S1x1024x512 .bf16) (x1 : Vec Ideal S512x1024 .f32) (x2 : Vec Ideal S1024x1024 .bf16) (x3 x4 : Vec Ideal S1x1024 .f32) (i : Fin 512) (j : Fin 1024) :
    (out0_5 x0 x1 x2 x3 x4 (ix2 i j) : EReal) = norm (fun j => Ideal.ofBits .f32 0x3FD744FD#32 * x1 (ix2 i j) + ∑ k : Fin 1024, (x0 (ix3 0 k i) : EReal) * x2 (ix2 k j))
      (x3 (ix2 0 j)) (x4 (ix2 0 j)) j := by
  have e : out0_5 x0 x1 x2 x3 x4 = k0_pay1 x0 x2 x1 x3 x4 := by
    have h2 : (![0, 0] : Fin 2 → ℕ) = fun _ => 0 := by funext a; fin_cases a <;> rfl
    have h3 : (![0, 0, 0] : Fin 3 → ℕ) = fun _ => 0 := by funext a; fin_cases a <;> rfl
    unfold out0_5
    rw [View.canon_cons_unit_zero h2, View.ld_unit_zero h3, View.ld_unit_zero h2, View.ld_unit_zero h2, View.ld_unit_zero h2, View.ld_unit_zero h2]
  rw [e, pay_eq, normed_apply]
  simp only [pre_apply]

end Cert.Kernel3Ideal.Outproj

end
-- ==== Proof.OutprojRef.lean ====
module

public import proofs.«01_k».proof.Proof.Gen.Reference3Ideal.Run
public import proofs.«01_k».proof.Proof.OutprojRow
public import Idealize.ShloMosaic.Lib.ValueIdx
public import Idealize.ShloMosaic.Lib.IdealHost
public import Idealize.ShloMosaic.Lib.Pointwise

@[expose] public section

noncomputable section

/-! The output projection's reference, element by element. -/

namespace Cert.Reference3Ideal.Outproj

open Cert.Reference3Ideal Cert.Reference3Ideal.Gen Cert.Outproj
open Idealize.ShloMosaic Idealize.ShloMosaic.TcCoe

/-- The rows before the norm: the scaled residual plus the projection. -/
def pre (o x : FVec Ideal S4x8192x1024 .f32) (w : FVec Ideal S1024x1024 .f32) : FVec Ideal S4x8192x1024 .f32 :=
  addf (mulf (broadcastInDim S4x8192x1024 ![] bcast_S_S4x8192x1024 (constant S_ .f32 0x3FD744FD#32)) x)
    (Host.dotGeneral dot_S4x8192x1024_S1024x1024_S4x8192x1024_2_0_01_1_n_n none o w)

/-- The mean of every row. -/
def means (a : FVec Ideal S4x8192x1024 .f32) : FVec Ideal S4x8192x1 .f32 :=
  Host.divf (broadcastInDim S4x8192x1 ![0, 1] bcast_S4x8192_S4x8192x1_0_1 (Host.reduceAdd a (constant S_ .f32 0x00000000#32) reducesTo_S4x8192x1024_S4x8192_d2 h_S_))
    (broadcastInDim S4x8192x1 ![] bcast_S_S4x8192x1 (constant S_ .f32 0x44800000#32))

/-- A value of every row, along the row. -/
def along (y : FVec Ideal S4x8192x1 .f32) : FVec Ideal S4x8192x1024 .f32 :=
  broadcastInDim S4x8192x1024 ![0, 1, 2] bcast_S4x8192x1_S4x8192x1024_0_1_2 y

/-- A vector on every row. -/
def onRows (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- The rows less their means. -/
def centered (a : FVec Ideal S4x8192x1024 .f32) : FVec Ideal S4x8192x1024 .f32 := subf a (along (means a))

/-- One over the deviation of every row. -/
def inverse (d : FVec Ideal S4x8192x1024 .f32) : FVec Ideal S4x8192x1 .f32 :=
  Host.rsqrt (addf (means (mulf d d)) (broadcastInDim S4x8192x1 ![] bcast_S_S4x8192x1 (constant S_ .f32 0x3727C5AC#32)))

/-- The norm of every row. -/
def normed (a : FVec Ideal S4x8192x1024 .f32) (g b : FVec Ideal S1024 .f32) : FVec Ideal S4x8192x1024 .f32 :=
  addf (mulf (mulf (centered a) (along (inverse (centered a)))) (onRows g)) (onRows b)

theorem pre_apply (o x : FVec Ideal S4x8192x1024 .f32) (w : FVec Ideal S1024x1024 .f32) (b : Fin 4) (i : Fin 8192) (j : Fin 1024) :
    (pre o x w (ix3 b i j) : EReal) = Ideal.ofBits .f32 0x3FD744FD#32 * x (ix3 b i j) + ∑ k : Fin 1024, (o (ix3 b i k) : EReal) * w (ix2 k j) := by
  unfold pre
  pointwise

theorem along_apply (y : FVec Ideal S4x8192x1 .f32) (b : Fin 4) (i : Fin 8192) (j : Fin 1024) : along y (ix3 b i j) = y (ix3 b i 0) := by
  unfold along
  pointwise

theorem onRows_apply (g : FVec Ideal S1024 .f32) (b : Fin 4) (i : Fin 8192) (j : Fin 1024) : onRows g (ix3 b i j) = g (ix1 j) := by
  unfold onRows
  pointwise

theorem means_apply (a : FVec Ideal S4x8192x1024 .f32) (b : Fin 4) (i : Fin 8192) :
    (means a (ix3 b i 0) : EReal) = mean fun j => (a (ix3 b i j) : EReal) := by
  unfold means mean
  pointwise

theorem centered_apply (a : FVec Ideal S4x8192x1024 .f32) (b : Fin 4) (i : Fin 8192) (j : Fin 1024) :
    (centered a (ix3 b i j) : EReal) = a (ix3 b i j) - mean fun j => (a (ix3 b i j) : EReal) := by
  rw [← means_apply, ← along_apply (means a) b i j]; rfl

theorem inverse_apply (d : FVec Ideal S4x8192x1024 .f32) (b : Fin 4) (i : Fin 8192) :
    (inverse d (ix3 b i 0) : EReal) = Ideal.rsqrt ((mean fun j => (d (ix3 b i j) : EReal) * d (ix3 b i j)) + Ideal.ofBits .f32 0x3727C5AC#32) := by
  have e := means_apply (mulf d d) b i
  refine Eq.trans ?_ (congrArg (fun z : EReal => Ideal.rsqrt (z + Ideal.ofBits .f32 0x3727C5AC#32)) e)
  rfl

theorem normed_apply (a : FVec Ideal S4x8192x1024 .f32) (g h : FVec Ideal S1024 .f32) (b : Fin 4) (i : Fin 8192) (j : Fin 1024) :
    (normed a g h (ix3 b i j) : EReal) = norm (fun j => (a (ix3 b i j) : EReal)) (g (ix1 j)) (h (ix1 j)) j := by
  have e : (normed a g h (ix3 b i j) : EReal) = centered a (ix3 b i j) * along (inverse (centered a)) (ix3 b i j) * onRows g (ix3 b i j) + onRows h (ix3 b i j) := rfl
  rw [e, along_apply, onRows_apply, onRows_apply, inverse_apply]
  simp only [centered_apply]
  rfl

variable (m : (ℓ : Loc nD τ sig) → Buf (Elt Ideal) ℓ)

end Cert.Reference3Ideal.Outproj

end
-- ==== Proof.OutprojHost.lean ====
module

public import proofs.«01_k».proof.Proof.OutprojTile
public import proofs.«01_k».proof.Proof.OutprojRef
public import Idealize.ShloMosaic.Lib.StableHlo.ReadAt
public import Idealize.ShloMosaic.Lib.Claim
public import Idealize.ShloMosaic.Lib.Pointwise
import Idealize.ShloMosaic.Lib.Pipeline.ValueKit

@[expose] public section

noncomputable section

/-! The output projection program's result is the reference's. -/

namespace Cert.Kernel3Ideal.Outproj

open Cert.Kernel3Ideal Cert.Kernel3Ideal.Gen Cert.Outproj
open Idealize.ShloMosaic Idealize.ShloMosaic.TcCoe

variable (m : (ℓ : Loc nD τ sig) → Buf (Elt Ideal) ℓ)

/-! ## The launch's operands -/

theorem flat {α : Type*} (l : List α) : [l].flatten = l := by simp

theorem V_v1 (c : Dev nD) (b : Fin 4) (k : Fin 1024) (i : Fin 8192) :
    (V m c main_v1 : Vec Ideal S4x1024x8192 .bf16) (ix3 b k i) = ((m ((c : Thread nD τ).loc main_arg0) : Vec Ideal S4x8192x1024 .f32) (ix3 b i k) : EReal) := by
  unfold V V0
  rw [flat]
  repeat after_reads_at

theorem V_v2 (c : Dev nD) (b : Fin 4) (i : Fin 8192) (j : Fin 1024) :
    (V m c main_v2 : Vec Ideal S32768x1024 .f32) (ix2 ⟨8192 * b.val + i.val, by omega⟩ j) = (m ((c : Thread nD τ).loc main_arg1) : Vec Ideal S4x8192x1024 .f32) (ix3 b i j) := by
  unfold V V0
  rw [flat]
  repeat after_reads_at

theorem V_v3 (c : Dev nD) (k j : Fin 1024) :
    (V m c main_v3 : Vec Ideal S1024x1024 .bf16) (ix2 k j) = ((m ((c : Thread nD τ).loc main_arg2) : Vec Ideal S1024x1024 .f32) (ix2 k j) : EReal) := by
  unfold V V0
  rw [flat]
  repeat after_reads_at

theorem V_v4 (c : Dev nD) (j : Fin 1024) :
    (V m c main_v4 : Vec Ideal S1x1024 .f32) (ix2 0 j) = (m ((c : Thread nD τ).loc main_arg3) : Vec Ideal S1024 .f32) (ix1 j) := by
  unfold V V0
  rw [flat]
  repeat after_reads_at

theorem V_v5 (c : Dev nD) (j : Fin 1024) :
    (V m c main_v5 : Vec Ideal S1x1024 .f32) (ix2 0 j) = (m ((c : Thread nD τ).loc main_arg4) : Vec Ideal S1024 .f32) (ix1 j) := by
  unfold V V0
  rw [flat]
  repeat after_reads_at

/-! ## A point's blocks -/

set_option maxRecDepth 10000 in
theorem transform0 : ∀ (i : grid0.Coords) (a : Fin 3), cc0_transform_0 i a = ![(i 0).val / 16, 0, (i 0).val % 16] a := by
  decide +kernel

theorem transform1 (i : grid0.Coords) (a : Fin 2) : cc0_transform_1 i a = ![(i 0).val, 0] a := by
  have h0 : (i 0).val < 64 := (i 0).isLt
  fin_cases a <;> simp [cc0_transform_1] <;> omega

theorem transform5 (i : grid0.Coords) (a : Fin 2) : cc0_transform_5 i a = ![(i 0).val, 0] a := by
  have h0 : (i 0).val < 64 := (i 0).isLt
  fin_cases a <;> simp [cc0_transform_5] <;> omega

variable (c : Dev nD) (t : Fin cfg0.N)

/-- The number of a point. -/
def pt : Fin 64 := ⟨(grid0.coords t 0).val, (grid0.coords t 0).isLt⟩

theorem iblk0 (k : Fin 1024) (i : Fin 512) : (iblk m c 0 t : Vec Ideal S1x1024x512 .bf16) (ix3 0 k i)
    = (V m c main_v1 : Vec Ideal S4x1024x8192 .bf16) (ix3 ⟨(pt t).val / 16, by omega⟩ k ⟨512 * ((pt t).val % 16) + i.val, by omega⟩) := by
  unfold iblk
  refine (View.read_apply _ _).trans ?_
  show V m c main_v1 _ = _
  refine congrArg (V m c main_v1) (funext fun a => ?_)
  have ht := transform0 (grid0.coords t)
  match a with
  | ⟨0, _⟩ => exact Fin.ext (by show cc0_transform_0 (grid0.coords t) 0 * 1 + 1 * 0 = _; rw [ht]; simp [pt])
  | ⟨1, _⟩ => exact Fin.ext (by show cc0_transform_0 (grid0.coords t) 1 * 1024 + 1 * k.val = _; rw [ht]; simp)
  | ⟨2, _⟩ => exact Fin.ext (by show cc0_transform_0 (grid0.coords t) 2 * 512 + 1 * i.val = _; rw [ht]; simp [pt]; omega)

theorem iblk1 (i : Fin 512) (j : Fin 1024) : (iblk m c 1 t : Vec Ideal S512x1024 .f32) (ix2 i j)
    = (V m c main_v2 : Vec Ideal S32768x1024 .f32) (ix2 ⟨512 * (pt t).val + i.val, by omega⟩ j) := by
  unfold iblk
  refine (View.read_apply _ _).trans ?_
  show V m c main_v2 _ = _
  refine congrArg (V m c main_v2) (funext fun a => ?_)
  have ht := transform1 (grid0.coords t)
  match a with
  | ⟨0, _⟩ => exact Fin.ext (by show cc0_transform_1 (grid0.coords t) 0 * 512 + 1 * i.val = _; rw [ht]; simp [pt]; omega)
  | ⟨1, _⟩ => exact Fin.ext (by show cc0_transform_1 (grid0.coords t) 1 * 1024 + 1 * j.val = _; rw [ht]; simp)

theorem iblk2 (k j : Fin 1024) : (iblk m c 2 t : Vec Ideal S1024x1024 .bf16) (ix2 k j) = (V m c main_v3 : Vec Ideal S1024x1024 .bf16) (ix2 k j) := by
  unfold iblk
  refine (View.read_apply _ _).trans ?_
  show V m c main_v3 _ = _
  refine congrArg (V m c main_v3) (funext fun a => ?_)
  match a with
  | ⟨0, _⟩ => exact Fin.ext (by show 0 * 1024 + 1 * k.val = k.val; omega)
  | ⟨1, _⟩ => exact Fin.ext (by show 0 * 1024 + 1 * j.val = j.val; omega)

theorem iblk3 (j : Fin 1024) : (iblk m c 3 t : Vec Ideal S1x1024 .f32) (ix2 0 j) = (V m c main_v4 : Vec Ideal S1x1024 .f32) (ix2 0 j) := by
  unfold iblk
  refine (View.read_apply _ _).trans ?_
  show V m c main_v4 _ = _
  refine congrArg (V m c main_v4) (funext fun a => ?_)
  match a with
  | ⟨0, _⟩ => rfl
  | ⟨1, _⟩ => exact Fin.ext (by show 0 * 1024 + 1 * j.val = j.val; omega)

theorem iblk4 (j : Fin 1024) : (iblk m c 4 t : Vec Ideal S1x1024 .f32) (ix2 0 j) = (V m c main_v5 : Vec Ideal S1x1024 .f32) (ix2 0 j) := by
  unfold iblk
  refine (View.read_apply _ _).trans ?_
  show V m c main_v5 _ = _
  refine congrArg (V m c main_v5) (funext fun a => ?_)
  match a with
  | ⟨0, _⟩ => rfl
  | ⟨1, _⟩ => exact Fin.ext (by show 0 * 1024 + 1 * j.val = j.val; omega)

/-! ## The result -/

/-- The reference's result on the program's arguments. -/
def want : FVec Ideal S4x8192x1024 .f32 :=
  Cert.Reference3Ideal.Outproj.normed (Cert.Reference3Ideal.Outproj.pre (m ((c : Thread nD τ).loc main_arg0)) (m ((c : Thread nD τ).loc main_arg1)) (m ((c : Thread nD τ).loc main_arg2)))
    (m ((c : Thread nD τ).loc main_arg3)) (m ((c : Thread nD τ).loc main_arg4))

/-- Each point leaves its rows of the result. -/
theorem out_eq (i : Fin 512) (j : Fin 1024) :
    (out0_5 (iblk m c 0 t) (iblk m c 1 t) (iblk m c 2 t) (iblk m c 3 t) (iblk m c 4 t) (ix2 i j) : EReal)
      = want m c (ix3 ⟨(pt t).val / 16, by omega⟩ ⟨512 * ((pt t).val % 16) + i.val, by omega⟩ j) := by
  rw [out_apply]
  unfold want
  rw [Cert.Reference3Ideal.Outproj.normed_apply]
  have h0 : ∀ k : Fin 1024, ((iblk m c 0 t : Vec Ideal S1x1024x512 .bf16) (ix3 0 k i) : EReal)
      = (m ((c : Thread nD τ).loc main_arg0) : Vec Ideal S4x8192x1024 .f32) (ix3 ⟨(pt t).val / 16, by omega⟩ ⟨512 * ((pt t).val % 16) + i.val, by omega⟩ k) := fun k =>
    (iblk0 m c t k i).trans (V_v1 m c _ k _)
  have h1 : ∀ j : Fin 1024, (iblk m c 1 t : Vec Ideal S512x1024 .f32) (ix2 i j)
      = (m ((c : Thread nD τ).loc main_arg1) : Vec Ideal S4x8192x1024 .f32) (ix3 ⟨(pt t).val / 16, by omega⟩ ⟨512 * ((pt t).val % 16) + i.val, by omega⟩ j) := fun j =>
    (iblk1 m c t i j).trans ((congrArg (fun r => (V m c main_v2 : Vec Ideal S32768x1024 .f32) (ix2 r j)) (Fin.ext (by
      show 512 * (pt t).val + i.val = 8192 * ((pt t).val / 16) + (512 * ((pt t).val % 16) + i.val); omega))).trans
      (V_v2 m c ⟨(pt t).val / 16, by omega⟩ ⟨512 * ((pt t).val % 16) + i.val, by omega⟩ j))
  have h2 : ∀ k j : Fin 1024, ((iblk m c 2 t : Vec Ideal S1024x1024 .bf16) (ix2 k j) : EReal)
      = (m ((c : Thread nD τ).loc main_arg2) : Vec Ideal S1024x1024 .f32) (ix2 k j) := fun k j => (iblk2 m c t k j).trans (V_v3 m c k j)
  rw [iblk3, iblk4, V_v4, V_v5]
  simp only [Cert.Reference3Ideal.Outproj.pre_apply, h0, h1, h2]

/-- The block a point leaves, -/
def outAt : Vec Ideal S512x1024 .f32 := out0_5 (iblk m c 0 t) (iblk m c 1 t) (iblk m c 2 t) (iblk m c 3 t) (iblk m c 4 t)

/-- and the rows it should be. -/
theorem outAt_eq (y : S512x1024.Idx) : (outAt m c t y : EReal) = want m c (ix3 ⟨(pt t).val / 16, by omega⟩ ⟨512 * ((pt t).val % 16) + (y 0).val, by
    have h : (y 0).val < 512 := (y 0).isLt; omega⟩ ⟨(y 1).val, (y 1).isLt⟩) := by
  have hy : y = ix2 ⟨(y 0).val, (y 0).isLt⟩ ⟨(y 1).val, (y 1).isLt⟩ := by
    funext a
    match a with
    | ⟨0, _⟩ => rfl
    | ⟨1, _⟩ => rfl
  exact (congrArg (outAt m c t) hy).trans (out_eq m c t _ _)

/-- The array the launch leaves. -/
def launched : Buf (Elt Ideal) ((c : Thread nD τ).loc (Pipeline.arrRef spec0 5)) := (dats m 0 c).arrAt 5 cfg0.N

/-- The result's rows one after another. -/
def rows : Vec Ideal S32768x1024 .f32 := fun y => want m c (ix3 ⟨(y 0).val / 8192, by
  have h : (y 0).val < 32768 := (y 0).isLt; omega⟩ ⟨(y 0).val % 8192, by omega⟩ ⟨(y 1).val, (y 1).isLt⟩)

theorem launched_eq : launched m c = rows m c := by
  unfold launched
  refine (dats m 0 c).arrAt_eq_of_covers 5 (rows m c) (by decide +kernel) fun t _ y => ?_
  have h0 : (y 0).val < 512 := (y 0).isLt
  have ht := transform5 (grid0.coords t)
  have e0 : cc0_transform_5 (grid0.coords t) 0 = (pt t).val := ht 0
  have e1 : cc0_transform_5 (grid0.coords t) 1 = 0 := ht 1
  refine Eq.trans ?_ ((outAt_eq m c t y).trans (congrArg (want m c) (funext fun a => ?_)))
  · rw [show (dats m 0 c).after 5 t = outAt m c t from after0_5 m c t]
    refine (cast_eq _ _).trans (congrArg (outAt m c t) (funext fun a => Fin.ext ?_))
    rfl
  match a with
  | ⟨0, _⟩ => exact Fin.ext (by show (pt t).val / 16 = (cc0_transform_5 (grid0.coords t) 0 * 512 + 1 * (y 0).val) / 8192; rw [e0]; omega)
  | ⟨1, _⟩ => exact Fin.ext (by show 512 * ((pt t).val % 16) + (y 0).val = (cc0_transform_5 (grid0.coords t) 0 * 512 + 1 * (y 0).val) % 8192; rw [e0]; omega)
  | ⟨2, _⟩ => exact Fin.ext (by show (y 1).val = cc0_transform_5 (grid0.coords t) 1 * 1024 + 1 * (y 1).val; rw [e1]; omega)

/-- The program's result: the launch's array with its rows as batches. -/
theorem result_apply (b : Fin 4) (i : Fin 8192) (j : Fin 1024) :
    (Pipeline.afterTail₀ cfgs (dats m) 0 (V0 m) [hostOps1] c main_v7 : Vec Ideal S4x8192x1024 .f32) (ix3 b i j)
      = (launched m c : Vec Ideal S32768x1024 .f32) (ix2 ⟨b.val * 8192 + i.val, by omega⟩ j) := by
  unfold Pipeline.afterTail₀
  rw [flat]
  after_reads_at
  exact congrFun (Pipeline.withArrays_arr spec0 (by decide) c (V0 m c) (fun w => (dats m 0 c).arrAt w cfg0.N) 5) _

theorem result_eq : (Pipeline.afterTail₀ cfgs (dats m) 0 (V0 m) [hostOps1] c main_v7 : Vec Ideal S4x8192x1024 .f32) = want m c := by
  funext x
  have hx : x = ix3 ⟨(x 0).val, (x 0).isLt⟩ ⟨(x 1).val, (x 1).isLt⟩ ⟨(x 2).val, (x 2).isLt⟩ := by
    funext a
    match a with
    | ⟨0, _⟩ => rfl
    | ⟨1, _⟩ => rfl
    | ⟨2, _⟩ => rfl
  have h1 : (x 1).val < 8192 := (x 1).isLt
  rw [hx]
  refine (result_apply m c _ _ _).trans ((congrFun (launched_eq m c) _).trans (congrArg (want m c) (funext fun a => ?_)))
  match a with
  | ⟨0, _⟩ => exact Fin.ext (by show ((x 0).val * 8192 + (x 1).val) / 8192 = (x 0).val; omega)
  | ⟨1, _⟩ => exact Fin.ext (by show ((x 0).val * 8192 + (x 1).val) % 8192 = (x 1).val; omega)
  | ⟨2, _⟩ => rfl

/-- The arguments and the result after the run. -/
theorem run_values (ρ : Dev nD → PrngReg) : θ_run defs (onTc (τ := τ) (main (F := Ideal))) ⟨m, fun _ => 0, ρ⟩ (fun r => ∀ c : Dev nD,
      r.2.mem ((c.tc : Thread nD τ).loc main_v7) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.Kernel3Ideal.Outproj

end
-- ==== Proof.ProjRow.lean ====
module

public import Idealize.ShloMosaic.Lib.IdealHost

@[expose] public section

noncomputable section

/-! The root-mean-square norm of a vector, and the scale's distribution over a rotation. -/

namespace Cert.Proj

open Idealize.ShloMosaic

/-- An entry of a vector after its norm, with its scale; `d` is the number of entries. -/
def rms {n : ℕ} (d : EReal) (a : Fin n → EReal) (g : EReal) (j : Fin n) : EReal :=
  a j * Ideal.rsqrt (Ideal.div (∑ k, a k * a k) d + Ideal.ofBits .f32 0x358637BD#32) * g

/-- The factor on the queries. -/
def scale : EReal := Ideal.ofBits .f32 0x3E16C740#32

theorem scale_real : ∃ r : ℝ, scale = (r : EReal) ∧ 0 ≤ r := by
  unfold scale
  simp only [Ideal.ofBits, Ideal.ieee]
  rw [if_neg (by decide), if_neg (by decide)]
  refine ⟨_, rfl, ?_⟩
  rw [if_neg (by decide)]
  positivity

theorem scale_nonneg : 0 ≤ scale := by
  obtain ⟨r, e, h⟩ := scale_real
  rw [e]; exact_mod_cast h

theorem scale_ne_top : scale ≠ ⊤ := by
  obtain ⟨r, e, h⟩ := scale_real
  rw [e]; exact EReal.coe_ne_top r

/-- The scale goes over a sum, -/
theorem add_scale (a b c d : EReal) : a * scale * c + b * scale * d = (a * c + b * d) * scale := by
  rw [EReal.right_distrib_of_nonneg_of_ne_top scale_nonneg scale_ne_top, mul_right_comm, mul_right_comm b]

/-- and over a difference. -/
theorem sub_scale (a b c d : EReal) : a * scale * c - b * scale * d = (a * c - b * d) * scale := by
  rw [sub_eq_add_neg, sub_eq_add_neg, EReal.right_distrib_of_nonneg_of_ne_top scale_nonneg scale_ne_top, mul_right_comm, mul_right_comm b, EReal.neg_mul]

end Cert.Proj

end
-- ==== Proof.ProjTile.lean ====
module

public import proofs.«01_k».proof.Proof.Gen.Kernel4Ideal.Skeleton
public import proofs.«01_k».proof.Proof.ProjRow
public import Idealize.ShloMosaic.Lib.ValueIdx
public import Idealize.ShloMosaic.Lib.IdealHost
public import Idealize.ShloMosaic.Lib.Pointwise

@[expose] public section

noncomputable section

/-! What one point of the latent projections computes, element by element. -/

namespace Cert.Kernel4Ideal.Proj

open Cert.Kernel4Ideal Cert.Kernel4Ideal.Gen Cert.Proj
open Idealize.ShloMosaic Idealize.ShloMosaic.TcCoe

/-- The latents, one token per column. -/
theorem latents_apply (x : Vec Ideal S512x1024 .f32) (w : Vec Ideal S384x1024 .bf16) (r : Fin 384) (i : Fin 512) :
    (k0_pay4 x w (ix2 r i) : EReal) = ∑ j : Fin 1024, (w (ix2 r j) : EReal) * x (ix2 i j) := by
  unfold k0_pay4 k0_pay3
  pointwise

/-- One over the root mean square of a query latent. -/
def inverseQ (a : FVec Ideal S256x512 .f32) : FVec Ideal S1x512 .f32 :=
  rsqrt (addf (divf (shapeCast S1x512 (multiReduction .add [0] S512 (mulf a a) 0x00000000#32 reduces_S256x512_S512 (.inl rfl) rfl) shapeCasts_S512_S1x512)
    (broadcast S1x512 (Scalar.ofBits (F := Ideal) .f32 0x43800000#32))) (broadcast S1x512 (Scalar.ofBits (F := Ideal) .f32 0x358637BD#32)))

theorem inverseQ_apply (a : FVec Ideal S256x512 .f32) (i : Fin 512) :
    (inverseQ a (ix2 0 i) : EReal) = Ideal.rsqrt (Ideal.div (∑ k : Fin 256, (a (ix2 k i) : EReal) * a (ix2 k i)) (Ideal.ofBits .f32 0x43800000#32) + Ideal.ofBits .f32 0x358637BD#32) := by
  unfold inverseQ
  pointwise

/-- The query latents after their norm. -/
def normedQ (a : FVec Ideal S256x512 .f32) (g : Vec Ideal S256x1 .f32) : FVec Ideal S256x512 .f32 :=
  mulf (mulf a (broadcastTo S256x512 (inverseQ a) broadcasts_S1x512_S256x512))
    (broadcastTo S256x512 (shapeCast S256x1 g shapeCasts_S256x1_S256x1) broadcasts_S256x1_S256x512)

theorem normedQ_apply (a : FVec Ideal S256x512 .f32) (g : Vec Ideal S256x1 .f32) (k : Fin 256) (i : Fin 512) :
    (normedQ a g (ix2 k i) : EReal) = rms (Ideal.ofBits .f32 0x43800000#32) (fun k => (a (ix2 k i) : EReal)) (g (ix2 k 0)) k := by
  have e : (normedQ a g (ix2 k i) : EReal) = a (ix2 k i) * inverseQ a (ix2 0 i) * g (ix2 k 0) := by
    unfold normedQ
    pointwise
  rw [e, inverseQ_apply]
  rfl

/-- One over the root mean square of a key and value latent. -/
def inverseK (a : FVec Ideal S128x512 .f32) : FVec Ideal S1x512 .f32 :=
  rsqrt (addf (divf (shapeCast S1x512 (multiReduction .add [0] S512 (mulf a a) 0x00000000#32 reduces_S128x512_S512 (.inl rfl) rfl) shapeCasts_S512_S1x512)
    (broadcast S1x512 (Scalar.ofBits (F := Ideal) .f32 0x43000000#32))) (broadcast S1x512 (Scalar.ofBits (F := Ideal) .f32 0x358637BD#32)))

theorem inverseK_apply (a : FVec Ideal S128x512 .f32) (i : Fin 512) :
    (inverseK a (ix2 0 i) : EReal) = Ideal.rsqrt (Ideal.div (∑ k : Fin 128, (a (ix2 k i) : EReal) * a (ix2 k i)) (Ideal.ofBits .f32 0x43000000#32) + Ideal.ofBits .f32 0x358637BD#32) := by
  unfold inverseK
  pointwise

/-- The key and value latents after their norm. -/
def normedK (a : FVec Ideal S128x512 .f32) (g : Vec Ideal S128x1 .f32) : FVec Ideal S128x512 .f32 :=
  mulf (mulf a (broadcastTo S128x512 (inverseK a) broadcasts_S1x512_S128x512))
    (broadcastTo S128x512 (shapeCast S128x1 g shapeCasts_S128x1_S128x1) broadcasts_S128x1_S128x512)

theorem normedK_apply (a : FVec Ideal S128x512 .f32) (g : Vec Ideal S128x1 .f32) (k : Fin 128) (i : Fin 512) :
    (normedK a g (ix2 k i) : EReal) = rms (Ideal.ofBits .f32 0x43000000#32) (fun k => (a (ix2 k i) : EReal)) (g (ix2 k 0)) k := by
  have e : (normedK a g (ix2 k i) : EReal) = a (ix2 k i) * inverseK a (ix2 0 i) * g (ix2 k 0) := by
    unfold normedK
    pointwise
  rw [e, inverseK_apply]
  rfl

/-- The query latents before their norm, -/
def cutQ (l : FVec Ideal S384x512 .f32) : FVec Ideal S256x512 .f32 := extractStridedSlice S256x512 ![0, 0] l slices_S384x512_o0_0_S256x512

theorem cutQ_apply (l : FVec Ideal S384x512 .f32) (k : Fin 256) (i : Fin 512) : cutQ l (ix2 k i) = l (ix2 ⟨k.val, by omega⟩ i) := by
  unfold cutQ
  pointwise

/-- and the key and value latents. -/
def cutK (l : FVec Ideal S384x512 .f32) : FVec Ideal S128x512 .f32 := extractStridedSlice S128x512 ![256, 0] l slices_S384x512_o256_0_S128x512

theorem cutK_apply (l : FVec Ideal S384x512 .f32) (k : Fin 128) (i : Fin 512) : cutK l (ix2 k i) = l (ix2 ⟨256 + k.val, by omega⟩ i) := by
  unfold cutK
  pointwise

theorem pay5_eq (x : Vec Ideal S512x1024 .f32) (w : Vec Ideal S384x1024 .bf16) (g : Vec Ideal S128x1 .f32) :
    k0_pay5 x w g = normedK (cutK (k0_pay4 x w)) g := by
  unfold k0_pay5 normedK inverseK cutK
  rfl

/-- The queries before their scale. -/
def heads (a : FVec Ideal S256x512 .f32) (u : Vec Ideal S1536x256 .bf16) : FVec Ideal S1536x512 .f32 :=
  matmul dot_S1536x256_S256x512_S1536x512_1_0_0_1_n_n none (φ₁ := .bf16) (φ₂ := .bf16) (shapeCast S1536x256 u shapeCasts_S1536x256_S1536x256 : FVec Ideal S1536x256 .bf16)
    (truncf .bf16 a bitsLt_bf16_f32 : FVec Ideal S256x512 .bf16) (constant S1536x512 .f32 0x00000000#32)

theorem heads_apply (a : FVec Ideal S256x512 .f32) (u : Vec Ideal S1536x256 .bf16) (r : Fin 1536) (i : Fin 512) :
    (heads a u (ix2 r i) : EReal) = ∑ k : Fin 256, (u (ix2 r k) : EReal) * a (ix2 k i) := by
  unfold heads
  pointwise

theorem pay6_eq (x : Vec Ideal S512x1024 .f32) (w : Vec Ideal S384x1024 .bf16) (g : Vec Ideal S256x1 .f32) (u : Vec Ideal S1536x256 .bf16) :
    k0_pay6 x w g u = heads (normedQ (cutQ (k0_pay4 x w)) g) u := by
  unfold k0_pay6 heads normedQ inverseQ cutQ
  rfl

variable (q : FVec Ideal S1536x512 .f32) (s : Ideal .f32) (co si : Vec Ideal S1x16x512 .f32) (h : Fin 16) (i : Fin 512)

theorem pay12_apply (e : Fin 64) : (k0_pay12 q s (ix4 0 h e i) : EReal) = q (ix2 ⟨h.val * 64 + e.val, by omega⟩ i) * s := by
  unfold k0_pay12 k0_pay7
  pointwise

theorem pay13_apply (f : Fin 16) : (k0_pay13 q s co si (ix4 0 h f i) : EReal)
    = q (ix2 ⟨1024 + (h.val * 16 + f.val), by omega⟩ i) * s * co (ix3 0 f i) - q (ix2 ⟨1280 + (h.val * 16 + f.val), by omega⟩ i) * s * si (ix3 0 f i) := by
  unfold k0_pay13 k0_pay8 k0_pay9 k0_pay10 k0_pay11 k0_pay7
  pointwise

theorem pay14_apply (f : Fin 16) : (k0_pay14 q s co si (ix4 0 h f i) : EReal)
    = q (ix2 ⟨1280 + (h.val * 16 + f.val), by omega⟩ i) * s * co (ix3 0 f i) + q (ix2 ⟨1024 + (h.val * 16 + f.val), by omega⟩ i) * s * si (ix3 0 f i) := by
  unfold k0_pay14 k0_pay8 k0_pay9 k0_pay10 k0_pay11 k0_pay7
  pointwise

theorem pay17_apply (a : FVec Ideal S128x512 .f32) (u : Vec Ideal S1024x128 .bf16) (e : Fin 64) :
    (k0_pay17 a u (ix4 0 h e i) : EReal) = ∑ k : Fin 128, (u (ix2 ⟨h.val * 64 + e.val, by omega⟩ k) : EReal) * a (ix2 k i) := by
  unfold k0_pay17
  pointwise

end Cert.Kernel4Ideal.Proj

end
-- ==== Proof.ProjOut.lean ====
module

public import proofs.«01_k».proof.Proof.ProjTile
public import proofs.«01_k».proof.Proof.Gen.Kernel4Ideal.Frame
public import Idealize.ShloMosaic.Lib.WritesUnit
public import Idealize.ShloMosaic.Lib.VecWindow
import Idealize.ShloMosaic.Lib.Pipeline.ValueKit

@[expose] public section

noncomputable section

/-! The blocks a point of the latent projections leaves, store by store. -/

namespace Cert.Kernel4Ideal.Proj

open Cert.Kernel4Ideal Cert.Kernel4Ideal.Gen Cert.Proj
open Idealize.ShloMosaic Idealize.ShloMosaic.TcCoe

/-- A load of a whole buffer. -/
theorem load_eq {s : Shape} {e : EltTy} {r : Memref sig .tc .vmem s e} (hr : r.IsWhole) (X : s.Idx → Elt Ideal e) {off : Fin s.rank → ℕ}
    (inb : ∀ a, off a + s.size a ≤ s.size a) :
    View.readAt (Elt Ideal) r.view (Rect.unit off s.size inb).toLoadRect (hr.unread X) = X :=
  (View.readAt_full _ _ inb).trans (hr.read_unread X)

variable (m : (ℓ : Loc nD τ sig) → Buf (Elt Ideal) ℓ) (c : Dev nD) (t : Fin cfg0.N)

/-- A point's queries before their scale. -/
def queriesAt : FVec Ideal S1536x512 .f32 := k0_pay6 (iblk m c 0 t) (iblk m c 5 t) (iblk m c 10 t) (iblk m c 7 t)

/-- A point's key and value latents. -/
def latentsAt : FVec Ideal S128x512 .f32 := k0_pay5 (iblk m c 0 t) (iblk m c 5 t) (iblk m c 11 t)

theorem r_2_eq : kernelRun0_A.sl.r_2 c (ms0_0 t) (hs0_0 t) (ms0_5 t) (hs0_5 t) (ms0_7 t) (hs0_7 t) (ms0_10 t) (hs0_10 t) (iblk m c 0 t) (iblk m c 5 t) (iblk m c 7 t) (iblk m c 10 t)
    = queriesAt m c t := by
  unfold kernelRun0_A.sl.r_2 queriesAt
  exact congr (congr (congr (congrArg _ (load_eq (hs0_0 t) _ _)) (load_eq (hs0_5 t) _ _)) (load_eq (hs0_10 t) _ _)) (load_eq (hs0_7 t) _ _)

theorem r_1_eq : kernelRun0_A.sl.r_1 c (ms0_0 t) (hs0_0 t) (ms0_5 t) (hs0_5 t) (ms0_11 t) (hs0_11 t) (iblk m c 0 t) (iblk m c 5 t) (iblk m c 11 t)
    = latentsAt m c t := by
  unfold kernelRun0_A.sl.r_1 latentsAt
  exact congr (congr (congrArg _ (load_eq (hs0_0 t) _ _)) (load_eq (hs0_5 t) _ _)) (load_eq (hs0_11 t) _ _)

variable (h : Fin 16) (i : Fin 512)

theorem plain_at (e : Fin 64) : ((outsAt0 m c t).1 : Vec Ideal S1x16x128x512 .bf16) (ix4 0 h ⟨e.val, by omega⟩ i)
    = k0_pay12 (queriesAt m c t) scale (ix4 0 h e i) := by
  unfold outsAt0
  dsimp only
  unfold out0_A_13
  unfold kernelRun0_A
  dsimp only
  refine (View.read_writes_cons_unit_of_not_mem _ _ _ _ _ _ rfl (⟨2, by decide⟩ : Fin 4) (Or.inl (by show e.val < 96; omega))).trans ?_
  refine (View.read_writes_cons_unit_of_not_mem _ _ _ _ _ _ rfl (⟨2, by decide⟩ : Fin 4) (Or.inl (by show e.val < 80; omega))).trans ?_
  refine (View.read_writes_cons_unit_of_not_mem _ _ _ _ _ _ rfl (⟨2, by decide⟩ : Fin 4) (Or.inl (by show e.val < 64; omega))).trans ?_
  refine (View.read_writes_cons_unit_of_mem _ _ _ _ _ _ (ix4 0 h e i) rfl fun a => ?_).trans ?_
  · match a with
    | ⟨0, _⟩ => rfl
    | ⟨1, _⟩ => exact (Nat.zero_add _).symm
    | ⟨2, _⟩ => exact (Nat.zero_add _).symm
    | ⟨3, _⟩ => exact (Nat.zero_add _).symm
  rw [r_2_eq]
  rfl

theorem first_at (f : Fin 16) : ((outsAt0 m c t).1 : Vec Ideal S1x16x128x512 .bf16) (ix4 0 h ⟨64 + f.val, by omega⟩ i)
    = k0_pay13 (queriesAt m c t) scale (iblk m c 1 t) (iblk m c 2 t) (ix4 0 h f i) := by
  unfold outsAt0
  dsimp only
  unfold out0_A_13
  unfold kernelRun0_A
  dsimp only
  refine (View.read_writes_cons_unit_of_not_mem _ _ _ _ _ _ rfl (⟨2, by decide⟩ : Fin 4) (Or.inl (by show 64 + f.val < 96; omega))).trans ?_
  refine (View.read_writes_cons_unit_of_not_mem _ _ _ _ _ _ rfl (⟨2, by decide⟩ : Fin 4) (Or.inl (by show 64 + f.val < 80; omega))).trans ?_
  refine (View.read_writes_cons_unit_of_mem _ _ _ _ _ _ (ix4 0 h f i) rfl fun a => ?_).trans ?_
  · match a with
    | ⟨0, _⟩ => rfl
    | ⟨1, _⟩ => exact (Nat.zero_add _).symm
    | ⟨2, _⟩ => rfl
    | ⟨3, _⟩ => exact (Nat.zero_add _).symm
  rw [r_2_eq]
  exact congrFun (congr (congrArg (k0_pay13 (queriesAt m c t) scale) (load_eq (hs0_1 t) _ _)) (load_eq (hs0_2 t) _ _)) _

theorem second_at (f : Fin 16) : ((outsAt0 m c t).1 : Vec Ideal S1x16x128x512 .bf16) (ix4 0 h ⟨64 + (16 + f.val), by omega⟩ i)
    = k0_pay14 (queriesAt m c t) scale (iblk m c 1 t) (iblk m c 2 t) (ix4 0 h f i) := by
  unfold outsAt0
  dsimp only
  unfold out0_A_13
  unfold kernelRun0_A
  dsimp only
  refine (View.read_writes_cons_unit_of_not_mem _ _ _ _ _ _ rfl (⟨2, by decide⟩ : Fin 4) (Or.inl (by show 64 + (16 + f.val) < 96; omega))).trans ?_
  refine (View.read_writes_cons_unit_of_mem _ _ _ _ _ _ (ix4 0 h f i) rfl fun a => ?_).trans ?_
  · match a with
    | ⟨0, _⟩ => rfl
    | ⟨1, _⟩ => exact (Nat.zero_add _).symm
    | ⟨2, _⟩ => exact (Nat.add_assoc 64 16 f.val).symm
    | ⟨3, _⟩ => exact (Nat.zero_add _).symm
  rw [r_2_eq]
  exact congrFun (congr (congrArg (k0_pay14 (queriesAt m c t) scale) (load_eq (hs0_1 t) _ _)) (load_eq (hs0_2 t) _ _)) _

theorem values_at (e : Fin 64) : ((outsAt0 m c t).2.2 : Vec Ideal S1x16x80x512 .bf16) (ix4 0 h ⟨e.val, by omega⟩ i)
    = k0_pay17 (latentsAt m c t) (iblk m c 8 t) (ix4 0 h e i) := by
  unfold outsAt0
  dsimp only
  unfold out0_A_15
  unfold kernelRun0_A
  dsimp only
  refine (View.read_writes_cons_unit_of_not_mem _ _ _ _ _ _ rfl (⟨2, by decide⟩ : Fin 4) (Or.inl (by show e.val < 64; omega))).trans ?_
  refine (View.read_writes_cons_unit_of_mem _ _ _ _ _ _ (ix4 0 h e i) rfl fun a => ?_).trans ?_
  · match a with
    | ⟨0, _⟩ => rfl
    | ⟨1, _⟩ => exact (Nat.zero_add _).symm
    | ⟨2, _⟩ => exact (Nat.zero_add _).symm
    | ⟨3, _⟩ => exact (Nat.zero_add _).symm
  rw [r_1_eq]
  exact congrFun (congrArg (k0_pay17 (latentsAt m c t)) (load_eq (hs0_8 t) _ _)) _

theorem padding_at (f : Fin 32) : ((outsAt0 m c t).1 : Vec Ideal S1x16x128x512 .bf16) (ix4 0 h ⟨96 + f.val, by omega⟩ i) = Ideal.ofBits .bf16 0x0000#16 := by
  unfold outsAt0
  dsimp only
  unfold out0_A_13
  unfold kernelRun0_A
  dsimp only
  refine (View.read_writes_cons_unit_of_mem _ _ _ _ _ _ (ix4 0 h f i) rfl fun a => ?_).trans ?_
  · match a with
    | ⟨0, _⟩ => rfl
    | ⟨1, _⟩ => exact (Nat.zero_add _).symm
    | ⟨2, _⟩ => rfl
    | ⟨3, _⟩ => exact (Nat.zero_add _).symm
  rfl

theorem ones_at (f : Fin 16) : ((outsAt0 m c t).2.2 : Vec Ideal S1x16x80x512 .bf16) (ix4 0 h ⟨64 + f.val, by omega⟩ i) = Ideal.ofBits .bf16 0x3F80#16 := by
  unfold outsAt0
  dsimp only
  unfold out0_A_15
  unfold kernelRun0_A
  dsimp only
  refine (View.read_writes_cons_unit_of_mem _ _ _ _ _ _ (ix4 0 h f i) rfl fun a => ?_).trans ?_
  · match a with
    | ⟨0, _⟩ => rfl
    | ⟨1, _⟩ => exact (Nat.zero_add _).symm
    | ⟨2, _⟩ => rfl
    | ⟨3, _⟩ => exact (Nat.zero_add _).symm
  rfl

end Cert.Kernel4Ideal.Proj

end
-- ==== Proof.ProjOperands.lean ====
module

public import proofs.«01_k».proof.Proof.Gen.Kernel4Ideal.Frame
public import Idealize.ShloMosaic.Lib.ValueIdx
public import Idealize.ShloMosaic.Lib.StableHlo.ReadAt
public import Idealize.ShloMosaic.Lib.Pointwise

@[expose] public section

noncomputable section

/-! The operands of the launch of the latent projections, as entries of the program's arguments. -/

namespace Cert.Kernel4Ideal.Proj

open Cert.Kernel4Ideal Cert.Kernel4Ideal.Gen
open Idealize.ShloMosaic Idealize.ShloMosaic.TcCoe

variable (m : (ℓ : Loc nD τ sig) → Buf (Elt Ideal) ℓ) (c : Dev nD)

theorem flat {α : Type*} (l : List α) : [l].flatten = l := by simp

theorem V_x (b : Fin 4) (i : Fin 8192) (j : Fin 1024) :
    (V m c main_v42 : Vec Ideal S32768x1024 .f32) (ix2 ⟨8192 * b.val + i.val, by omega⟩ j) = (m ((c : Thread nD τ).loc main_arg0) : Vec Ideal S4x8192x1024 .f32) (ix3 b i j) := by
  unfold V V0
  rw [flat]
  repeat after_reads_at

theorem V_cos (b : Fin 4) (f : Fin 16) (i : Fin 8192) :
    (V m c main_v4 : Vec Ideal S4x16x8192 .f32) (ix3 b f i) = (m ((c : Thread nD τ).loc main_arg1) : Vec Ideal S4x8192x16 .f32) (ix3 b i f) := by
  unfold V V0
  rw [flat]
  repeat after_reads_at

theorem V_sin (b : Fin 4) (f : Fin 16) (i : Fin 8192) :
    (V m c main_v5 : Vec Ideal S4x16x8192 .f32) (ix3 b f i) = (m ((c : Thread nD τ).loc main_arg2) : Vec Ideal S4x8192x16 .f32) (ix3 b i f) := by
  unfold V V0
  rw [flat]
  repeat after_reads_at

theorem V_lat (r : Fin 384) (j : Fin 1024) :
    (V m c main_v34 : Vec Ideal S384x1024 .bf16) (ix2 r j) = ((m ((c : Thread nD τ).loc main_arg3) : Vec Ideal S1024x416 .f32) (ix2 j ⟨r.val, by omega⟩) : EReal) := by
  unfold V V0
  rw [flat]
  repeat after_reads_at

theorem V_qnorm (k : Fin 256) :
    (V m c main_v39 : Vec Ideal S256x1 .f32) (ix2 k 0) = (m ((c : Thread nD τ).loc main_arg4) : Vec Ideal S256 .f32) (ix1 k) := by
  unfold V V0
  rw [flat]
  repeat after_reads_at

theorem V_kvnorm (k : Fin 128) :
    (V m c main_v40 : Vec Ideal S128x1 .f32) (ix2 k 0) = (m ((c : Thread nD τ).loc main_arg6) : Vec Ideal S128 .f32) (ix1 k) := by
  unfold V V0
  rw [flat]
  repeat after_reads_at

theorem V_plain (h : Fin 16) (e : Fin 64) (k : Fin 256) :
    (V m c main_v36 : Vec Ideal S1536x256 .bf16) (ix2 ⟨h.val * 64 + e.val, by omega⟩ k) = ((m ((c : Thread nD τ).loc main_arg5) : Vec Ideal S256x1536 .f32) (ix2 k ⟨h.val * 96 + e.val, by omega⟩) : EReal) := by
  unfold V V0
  rw [flat]
  repeat after_reads_at
  rw [dif_pos (by omega)]

theorem V_first (h : Fin 16) (f : Fin 16) (k : Fin 256) :
    (V m c main_v36 : Vec Ideal S1536x256 .bf16) (ix2 ⟨1024 + (h.val * 16 + f.val), by omega⟩ k) = ((m ((c : Thread nD τ).loc main_arg5) : Vec Ideal S256x1536 .f32) (ix2 k ⟨h.val * 96 + (64 + f.val), by omega⟩) : EReal) := by
  unfold V V0
  rw [flat]
  repeat after_reads_at
  rw [dif_pos (by omega)]

theorem V_second (h : Fin 16) (f : Fin 16) (k : Fin 256) :
    (V m c main_v36 : Vec Ideal S1536x256 .bf16) (ix2 ⟨1024 + (256 + (h.val * 16 + f.val)), by omega⟩ k) = ((m ((c : Thread nD τ).loc main_arg5) : Vec Ideal S256x1536 .f32) (ix2 k ⟨h.val * 96 + (80 + f.val), by omega⟩) : EReal) := by
  unfold V V0
  rw [flat]
  repeat after_reads_at

theorem V_values (h : Fin 16) (e : Fin 64) (k : Fin 128) :
    (V m c main_v37 : Vec Ideal S1024x128 .bf16) (ix2 ⟨h.val * 64 + e.val, by omega⟩ k) = ((m ((c : Thread nD τ).loc main_arg7) : Vec Ideal S128x2048 .f32) (ix2 k ⟨h.val * 128 + (64 + e.val), by omega⟩) : EReal) := by
  unfold V V0
  rw [flat]
  repeat after_reads_at
  have e1 : (h.val * 64 + e.val) / 64 = h.val := by omega
  have e2 : (h.val * 64 + e.val) % 64 = e.val := by omega
  refine congrArg (m ((c : Thread nD τ).loc main_arg7) : Vec Ideal S128x2048 .f32) (congrArg (ix2 k) (Fin.ext ?_))
  show (h.val * 64 + e.val) / 64 * 128 + (64 + (h.val * 64 + e.val) % 64) = _
  rw [e1, e2]

end Cert.Kernel4Ideal.Proj

end
-- ==== Proof.ProjRef.lean ====
module

public import proofs.«01_k».proof.Proof.Gen.Reference4Ideal.Run
public import proofs.«01_k».proof.Proof.ProjRow
public import Idealize.ShloMosaic.Lib.ValueIdx
public import Idealize.ShloMosaic.Lib.IdealHost
public import Idealize.ShloMosaic.Lib.Pointwise

@[expose] public section

noncomputable section

/-! The latent projections' reference, element by element. -/

namespace Cert.Reference4Ideal.Proj

open Cert.Reference4Ideal Cert.Reference4Ideal.Gen Cert.Proj
open Idealize.ShloMosaic Idealize.ShloMosaic.TcCoe

/-- The latents. -/
def latents (x : FVec Ideal S4x8192x1024 .f32) (w : FVec Ideal S1024x416 .f32) : FVec Ideal S4x8192x416 .f32 :=
  Host.dotGeneral dot_S4x8192x1024_S1024x416_S4x8192x416_2_0_01_1_n_n none x w

theorem latents_apply (x : FVec Ideal S4x8192x1024 .f32) (w : FVec Ideal S1024x416 .f32) (b : Fin 4) (i : Fin 8192) (r : Fin 416) :
    (latents x w (ix3 b i r) : EReal) = ∑ j : Fin 1024, (x (ix3 b i j) : EReal) * w (ix2 j r) := by
  unfold latents
  pointwise

/-- One over the root mean square of a query latent. -/
def inverseQ (a : FVec Ideal S4x8192x256 .f32) : FVec Ideal S4x8192x1 .f32 :=
  Host.rsqrt (addf (Host.divf (broadcastInDim S4x8192x1 ![0, 1] bcast_S4x8192_S4x8192x1_0_1 (Host.reduceAdd (mulf a a) (constant S_ .f32 0x00000000#32) reducesTo_S4x8192x256_S4x8192_d2 h_S_))
    (broadcastInDim S4x8192x1 ![] bcast_S_S4x8192x1 (constant S_ .f32 0x43800000#32))) (broadcastInDim S4x8192x1 ![] bcast_S_S4x8192x1 (constant S_ .f32 0x358637BD#32)))

theorem inverseQ_apply (a : FVec Ideal S4x8192x256 .f32) (b : Fin 4) (i : Fin 8192) :
    (inverseQ a (ix3 b i 0) : EReal) = Ideal.rsqrt (Ideal.div (∑ k : Fin 256, (a (ix3 b i k) : EReal) * a (ix3 b i k)) (Ideal.ofBits .f32 0x43800000#32) + Ideal.ofBits .f32 0x358637BD#32) := by
  unfold inverseQ
  pointwise

/-- The query latents after their norm. -/
def normedQ (a : FVec Ideal S4x8192x256 .f32) (g : FVec Ideal S256 .f32) : FVec Ideal S4x8192x256 .f32 :=
  mulf (mulf a (broadcastInDim S4x8192x256 ![0, 1, 2] bcast_S4x8192x1_S4x8192x256_0_1_2 (inverseQ a)))
    (broadcastInDim S4x8192x256 ![0, 1, 2] bcast_S1x1x256_S4x8192x256_0_1_2 (broadcastInDim S1x1x256 ![2] bcast_S256_S1x1x256_2 g))

theorem normedQ_apply (a : FVec Ideal S4x8192x256 .f32) (g : FVec Ideal S256 .f32) (b : Fin 4) (i : Fin 8192) (k : Fin 256) :
    (normedQ a g (ix3 b i k) : EReal) = rms (Ideal.ofBits .f32 0x43800000#32) (fun k => (a (ix3 b i k) : EReal)) (g (ix1 k)) k := by
  have e : (normedQ a g (ix3 b i k) : EReal) = a (ix3 b i k) * inverseQ a (ix3 b i 0) * g (ix1 k) := by
    unfold normedQ
    pointwise
  rw [e, inverseQ_apply]
  rfl

/-- One over the root mean square of a key and value latent. -/
def inverseK (a : FVec Ideal S4x8192x128 .f32) : FVec Ideal S4x8192x1 .f32 :=
  Host.rsqrt (addf (Host.divf (broadcastInDim S4x8192x1 ![0, 1] bcast_S4x8192_S4x8192x1_0_1 (Host.reduceAdd (mulf a a) (constant S_ .f32 0x00000000#32) reducesTo_S4x8192x128_S4x8192_d2 h_S_))
    (broadcastInDim S4x8192x1 ![] bcast_S_S4x8192x1 (constant S_ .f32 0x43000000#32))) (broadcastInDim S4x8192x1 ![] bcast_S_S4x8192x1 (constant S_ .f32 0x358637BD#32)))

theorem inverseK_apply (a : FVec Ideal S4x8192x128 .f32) (b : Fin 4) (i : Fin 8192) :
    (inverseK a (ix3 b i 0) : EReal) = Ideal.rsqrt (Ideal.div (∑ k : Fin 128, (a (ix3 b i k) : EReal) * a (ix3 b i k)) (Ideal.ofBits .f32 0x43000000#32) + Ideal.ofBits .f32 0x358637BD#32) := by
  unfold inverseK
  pointwise

/-- The key and value latents after their norm. -/
def normedK (a : FVec Ideal S4x8192x128 .f32) (g : FVec Ideal S128 .f32) : FVec Ideal S4x8192x128 .f32 :=
  mulf (mulf a (broadcastInDim S4x8192x128 ![0, 1, 2] bcast_S4x8192x1_S4x8192x128_0_1_2 (inverseK a)))
    (broadcastInDim S4x8192x128 ![0, 1, 2] bcast_S1x1x128_S4x8192x128_0_1_2 (broadcastInDim S1x1x128 ![2] bcast_S128_S1x1x128_2 g))

theorem normedK_apply (a : FVec Ideal S4x8192x128 .f32) (g : FVec Ideal S128 .f32) (b : Fin 4) (i : Fin 8192) (k : Fin 128) :
    (normedK a g (ix3 b i k) : EReal) = rms (Ideal.ofBits .f32 0x43000000#32) (fun k => (a (ix3 b i k) : EReal)) (g (ix1 k)) k := by
  have e : (normedK a g (ix3 b i k) : EReal) = a (ix3 b i k) * inverseK a (ix3 b i 0) * g (ix1 k) := by
    unfold normedK
    pointwise
  rw [e, inverseK_apply]
  rfl

/-- The query latents before their norm, -/
def cutQ (l : FVec Ideal S4x8192x416 .f32) : FVec Ideal S4x8192x256 .f32 := extractStridedSlice S4x8192x256 ![0, 0, 0] l slices_S4x8192x416_S4x8192x256_0_0_0

theorem cutQ_apply (l : FVec Ideal S4x8192x416 .f32) (b : Fin 4) (i : Fin 8192) (k : Fin 256) : cutQ l (ix3 b i k) = l (ix3 b i ⟨k.val, by omega⟩) := by
  unfold cutQ
  pointwise

/-- and the key and value latents. -/
def cutK (l : FVec Ideal S4x8192x416 .f32) : FVec Ideal S4x8192x128 .f32 := extractStridedSlice S4x8192x128 ![0, 0, 256] l slices_S4x8192x416_S4x8192x128_0_0_256

theorem cutK_apply (l : FVec Ideal S4x8192x416 .f32) (b : Fin 4) (i : Fin 8192) (k : Fin 128) : cutK l (ix3 b i k) = l (ix3 b i ⟨256 + k.val, by omega⟩) := by
  unfold cutK
  pointwise

/-- The queries before their rotation. -/
def heads (a : FVec Ideal S4x8192x256 .f32) (w : FVec Ideal S256x1536 .f32) : FVec Ideal S4x8192x16x96 .f32 :=
  shapeCast _ (Host.dotGeneral dot_S4x8192x256_S256x1536_S4x8192x1536_2_0_01_1_n_n none a w) shapeCasts_S4x8192x1536_S4x8192x16x96

theorem heads_apply (a : FVec Ideal S4x8192x256 .f32) (w : FVec Ideal S256x1536 .f32) (b : Fin 4) (i : Fin 8192) (h : Fin 16) (e : Fin 96) :
    (heads a w (ix4 b i h e) : EReal) = ∑ k : Fin 256, (a (ix3 b i k) : EReal) * w (ix2 k ⟨h.val * 96 + e.val, by omega⟩) := by
  unfold heads
  pointwise

/-- The queries rotated and scaled. -/
def rotated (q : FVec Ideal S4x8192x16x96 .f32) (co si : FVec Ideal S4x8192x16 .f32) : FVec Ideal S4x8192x16x96 .f32 :=
  have c : FVec Ideal S4x8192x16x16 .f32 := broadcastInDim S4x8192x16x16 ![0, 1, 2, 3] bcast_S4x8192x1x16_S4x8192x16x16_0_1_2_3 (broadcastInDim S4x8192x1x16 ![0, 1, 3] bcast_S4x8192x16_S4x8192x1x16_0_1_3 co)
  have s : FVec Ideal S4x8192x16x16 .f32 := broadcastInDim S4x8192x16x16 ![0, 1, 2, 3] bcast_S4x8192x1x16_S4x8192x16x16_0_1_2_3 (broadcastInDim S4x8192x1x16 ![0, 1, 3] bcast_S4x8192x16_S4x8192x1x16_0_1_3 si)
  have r : FVec Ideal S4x8192x16x32 .f32 := extractStridedSlice S4x8192x16x32 ![0, 0, 0, 64] q slices_S4x8192x16x96_S4x8192x16x32_0_0_0_64
  have r1 : FVec Ideal S4x8192x16x16 .f32 := extractStridedSlice S4x8192x16x16 ![0, 0, 0, 0] r slices_S4x8192x16x32_S4x8192x16x16_0_0_0_0
  have r2 : FVec Ideal S4x8192x16x16 .f32 := extractStridedSlice S4x8192x16x16 ![0, 0, 0, 16] r slices_S4x8192x16x32_S4x8192x16x16_0_0_0_16
  mulf (concatenate S4x8192x16x96 3 [⟨S4x8192x16x64, extractStridedSlice S4x8192x16x64 ![0, 0, 0, 0] q slices_S4x8192x16x96_S4x8192x16x64_0_0_0_0⟩,
      ⟨S4x8192x16x32, concatenate S4x8192x16x32 3 [⟨S4x8192x16x16, subf (mulf r1 c) (mulf r2 s)⟩, ⟨S4x8192x16x16, addf (mulf r2 c) (mulf r1 s)⟩] concatenates_S4x8192x16x16_S4x8192x16x16_S4x8192x16x32_d3⟩]
      concatenates_S4x8192x16x64_S4x8192x16x32_S4x8192x16x96_d3)
    (broadcastInDim S4x8192x16x96 ![] bcast_S_S4x8192x16x96 (constant S_ .f32 0x3E16C740#32))

variable (q : FVec Ideal S4x8192x16x96 .f32) (co si : FVec Ideal S4x8192x16 .f32) (b : Fin 4) (i : Fin 8192) (h : Fin 16)

theorem rotated_plain (e : Fin 64) : (rotated q co si (ix4 b i h ⟨e.val, by omega⟩) : EReal) = q (ix4 b i h ⟨e.val, by omega⟩) * scale := by
  unfold rotated scale
  pointwise

theorem rotated_first (f : Fin 16) : (rotated q co si (ix4 b i h ⟨64 + f.val, by omega⟩) : EReal)
    = (q (ix4 b i h ⟨64 + f.val, by omega⟩) * co (ix3 b i f) - q (ix4 b i h ⟨64 + (16 + f.val), by omega⟩) * si (ix3 b i f)) * scale := by
  unfold rotated scale
  pointwise

theorem rotated_second (f : Fin 16) : (rotated q co si (ix4 b i h ⟨64 + (16 + f.val), by omega⟩) : EReal)
    = (q (ix4 b i h ⟨64 + (16 + f.val), by omega⟩) * co (ix3 b i f) + q (ix4 b i h ⟨64 + f.val, by omega⟩) * si (ix3 b i f)) * scale := by
  unfold rotated scale
  pointwise

/-- The values. -/
def values (a : FVec Ideal S4x8192x128 .f32) (w : FVec Ideal S128x2048 .f32) : FVec Ideal S4x8192x16x64 .f32 :=
  extractStridedSlice S4x8192x16x64 ![0, 0, 0, 64] (shapeCast S4x8192x16x128 (Host.dotGeneral dot_S4x8192x128_S128x2048_S4x8192x2048_2_0_01_1_n_n none a w) shapeCasts_S4x8192x2048_S4x8192x16x128)
    slices_S4x8192x16x128_S4x8192x16x64_0_0_0_64

theorem values_apply (a : FVec Ideal S4x8192x128 .f32) (w : FVec Ideal S128x2048 .f32) (e : Fin 64) :
    (values a w (ix4 b i h e) : EReal) = ∑ k : Fin 128, (a (ix3 b i k) : EReal) * w (ix2 k ⟨h.val * 128 + (64 + e.val), by omega⟩) := by
  unfold values
  pointwise

/-! ## The results -/

/-- The queries of the arguments. -/
def queriesOf (x : FVec Ideal S4x8192x1024 .f32) (co si : FVec Ideal S4x8192x16 .f32) (w : FVec Ideal S1024x416 .f32) (g : FVec Ideal S256 .f32) (u : FVec Ideal S256x1536 .f32) : FVec Ideal S4x8192x16x96 .f32 :=
  rotated (heads (normedQ (cutQ (latents x w)) g) u) co si

/-- The values of the arguments. -/
def valuesOf (x : FVec Ideal S4x8192x1024 .f32) (w : FVec Ideal S1024x416 .f32) (g : FVec Ideal S128 .f32) (u : FVec Ideal S128x2048 .f32) : FVec Ideal S4x8192x16x64 .f32 :=
  values (normedK (cutK (latents x w)) g) u

variable (m : (ℓ : Loc nD τ sig) → Buf (Elt Ideal) ℓ)

theorem queries_eq (c : Dev nD) : Cert.Reference4Ideal.Value.res_main_v53 m c
    = queriesOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.Reference4Ideal.Value.res_main_v53 queriesOf rotated heads normedQ inverseQ cutQ latents
  rfl

/-- The results after the reference's run are these, and the arguments are as they were. -/
theorem run_values (ρ : Dev nD → PrngReg) : θ_run defs (onTc (τ := τ) (main (F := Ideal))) ⟨m, fun _ => 0, ρ⟩ fun r => ∀ c : Dev nD,
      r.2.mem ((c.tc : Thread nD τ).loc main_v53)
        = queriesOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v50)
        = valuesOf (m ((c.tc : Thread nD τ).loc main_arg0)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (queries_eq m c), (h c).2.1.trans (by
    unfold valuesOf values normedK inverseK cutK latents
    rfl), (h c).2.2⟩) (Cert.Reference4Ideal.Value.run m ρ)

end Cert.Reference4Ideal.Proj

end
-- ==== Proof.ProjPoint.lean ====
module

public import proofs.«01_k».proof.Proof.ProjOut
public import proofs.«01_k».proof.Proof.ProjOperands
public import proofs.«01_k».proof.Proof.ProjRef
public import Idealize.ShloMosaic.Lib.Claim
import Idealize.ShloMosaic.Lib.Pipeline.ValueKit

@[expose] public section

noncomputable section

/-! Every point of the latent projections leaves its columns of the reference's queries and values. -/

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ)

/-! ## A point's blocks -/

theorem transform0 (i : grid0.Coords) (a : Fin 2) : cc0_transform_0 i a = ![(i 0).val, 0] a := by
  have h0 : (i 0).val < 64 := (i 0).isLt
  fin_cases a <;> simp [cc0_transform_0] <;> omega

set_option maxRecDepth 10000 in
theorem transform1 : ∀ (i : grid0.Coords) (a : Fin 3), cc0_transform_1 i a = ![(i 0).val / 16, 0, (i 0).val % 16] a := by
  decide +kernel

set_option maxRecDepth 10000 in
theorem transform2 : ∀ (i : grid0.Coords) (a : Fin 3), cc0_transform_2 i a = ![(i 0).val / 16, 0, (i 0).val % 16] a := by
  decide +kernel

set_option maxRecDepth 10000 in
theorem transform13 : ∀ (i : grid0.Coords) (a : Fin 4), cc0_transform_13 i a = ![(i 0).val / 16, 0, 0, (i 0).val % 16] a := by
  decide +kernel

set_option maxRecDepth 10000 in
theorem transform15 : ∀ (i : grid0.Coords) (a : Fin 4), cc0_transform_15 i a = ![(i 0).val / 16, 0, 0, (i 0).val % 16] a := by
  decide +kernel

variable (c : Dev nD) (t : Fin cfg0.N)

/-- The number of a point, -/
def pt : Fin 64 := ⟨(grid0.coords t 0).val, (grid0.coords t 0).isLt⟩

/-- the batch it works on, -/
def bat : Fin 4 := ⟨(pt t).val / 16, by omega⟩

/-- and the position of one of its tokens. -/
def pos (i : Fin 512) : Fin 8192 := ⟨512 * ((pt t).val % 16) + i.val, by omega⟩

theorem iblk0 (i : Fin 512) (j : Fin 1024) : (iblk m c 0 t : Vec Ideal S512x1024 .f32) (ix2 i j)
    = (m ((c : Thread nD τ).loc main_arg0) : Vec Ideal S4x8192x1024 .f32) (ix3 (bat t) (pos t i) j) := by
  refine Eq.trans ?_ (V_x m c (bat t) (pos t i) j)
  unfold iblk
  refine (View.read_apply _ _).trans ?_
  show V m c main_v42 _ = _
  refine congrArg (V m c main_v42) (funext fun a => ?_)
  have ht := transform0 (grid0.coords t)
  match a with
  | ⟨0, _⟩ => exact Fin.ext (by show cc0_transform_0 (grid0.coords t) 0 * 512 + 1 * i.val = 8192 * ((pt t).val / 16) + (512 * ((pt t).val % 16) + i.val); rw [ht]; simp [pt]; omega)
  | ⟨1, _⟩ => exact Fin.ext (by show cc0_transform_0 (grid0.coords t) 1 * 1024 + 1 * j.val = _; rw [ht]; simp)

theorem iblk1 (f : Fin 16) (i : Fin 512) : (iblk m c 1 t : Vec Ideal S1x16x512 .f32) (ix3 0 f i)
    = (m ((c : Thread nD τ).loc main_arg1) : Vec Ideal S4x8192x16 .f32) (ix3 (bat t) (pos t i) f) := by
  refine Eq.trans ?_ (V_cos m c (bat t) f (pos t i))
  unfold iblk
  refine (View.read_apply _ _).trans ?_
  show V m c main_v4 _ = _
  refine congrArg (V m c main_v4) (funext fun a => ?_)
  have ht := transform1 (grid0.coords t)
  match a with
  | ⟨0, _⟩ => exact Fin.ext (by show cc0_transform_1 (grid0.coords t) 0 * 1 + 1 * 0 = _; rw [ht]; simp [pt, bat])
  | ⟨1, _⟩ => exact Fin.ext (by show cc0_transform_1 (grid0.coords t) 1 * 16 + 1 * f.val = _; rw [ht]; simp)
  | ⟨2, _⟩ => exact Fin.ext (by show cc0_transform_1 (grid0.coords t) 2 * 512 + 1 * i.val = _; rw [ht]; simp [pt, pos]; omega)

theorem iblk2 (f : Fin 16) (i : Fin 512) : (iblk m c 2 t : Vec Ideal S1x16x512 .f32) (ix3 0 f i)
    = (m ((c : Thread nD τ).loc main_arg2) : Vec Ideal S4x8192x16 .f32) (ix3 (bat t) (pos t i) f) := by
  refine Eq.trans ?_ (V_sin m c (bat t) f (pos t i))
  unfold iblk
  refine (View.read_apply _ _).trans ?_
  show V m c main_v5 _ = _
  refine congrArg (V m c main_v5) (funext fun a => ?_)
  have ht := transform2 (grid0.coords t)
  match a with
  | ⟨0, _⟩ => exact Fin.ext (by show cc0_transform_2 (grid0.coords t) 0 * 1 + 1 * 0 = _; rw [ht]; simp [pt, bat])
  | ⟨1, _⟩ => exact Fin.ext (by show cc0_transform_2 (grid0.coords t) 1 * 16 + 1 * f.val = _; rw [ht]; simp)
  | ⟨2, _⟩ => exact Fin.ext (by show cc0_transform_2 (grid0.coords t) 2 * 512 + 1 * i.val = _; rw [ht]; simp [pt, pos]; omega)

theorem iblk5 (r : Fin 384) (k : Fin 1024) : (iblk m c 5 t : Vec Ideal S384x1024 .bf16) (ix2 r k) = (V m c main_v34 : Vec Ideal S384x1024 .bf16) (ix2 r k) := by
  unfold iblk
  refine (View.read_apply _ _).trans ?_
  show V m c main_v34 _ = _
  refine congrArg (V m c main_v34) (funext fun a => ?_)
  match a with
  | ⟨0, _⟩ => exact Fin.ext (by show 0 * 384 + 1 * r.val = r.val; omega)
  | ⟨1, _⟩ => exact Fin.ext (by show 0 * 1024 + 1 * k.val = k.val; omega)

theorem iblk7 (r : Fin 1536) (k : Fin 256) : (iblk m c 7 t : Vec Ideal S1536x256 .bf16) (ix2 r k) = (V m c main_v36 : Vec Ideal S1536x256 .bf16) (ix2 r k) := by
  unfold iblk
  refine (View.read_apply _ _).trans ?_
  show V m c main_v36 _ = _
  refine congrArg (V m c main_v36) (funext fun a => ?_)
  match a with
  | ⟨0, _⟩ => exact Fin.ext (by show 0 * 1536 + 1 * r.val = r.val; omega)
  | ⟨1, _⟩ => exact Fin.ext (by show 0 * 256 + 1 * k.val = k.val; omega)

theorem iblk8 (r : Fin 1024) (k : Fin 128) : (iblk m c 8 t : Vec Ideal S1024x128 .bf16) (ix2 r k) = (V m c main_v37 : Vec Ideal S1024x128 .bf16) (ix2 r k) := by
  unfold iblk
  refine (View.read_apply _ _).trans ?_
  show V m c main_v37 _ = _
  refine congrArg (V m c main_v37) (funext fun a => ?_)
  match a with
  | ⟨0, _⟩ => exact Fin.ext (by show 0 * 1024 + 1 * r.val = r.val; omega)
  | ⟨1, _⟩ => exact Fin.ext (by show 0 * 128 + 1 * k.val = k.val; omega)

theorem iblk10 (r : Fin 256) : (iblk m c 10 t : Vec Ideal S256x1 .f32) (ix2 r 0) = (V m c main_v39 : Vec Ideal S256x1 .f32) (ix2 r 0) := by
  unfold iblk
  refine (View.read_apply _ _).trans ?_
  show V m c main_v39 _ = _
  refine congrArg (V m c main_v39) (funext fun a => ?_)
  match a with
  | ⟨0, _⟩ => exact Fin.ext (by show 0 * 256 + 1 * r.val = r.val; omega)
  | ⟨1, _⟩ => rfl

theorem iblk11 (r : Fin 128) : (iblk m c 11 t : Vec Ideal S128x1 .f32) (ix2 r 0) = (V m c main_v40 : Vec Ideal S128x1 .f32) (ix2 r 0) := by
  unfold iblk
  refine (View.read_apply _ _).trans ?_
  show V m c main_v40 _ = _
  refine congrArg (V m c main_v40) (funext fun a => ?_)
  match a with
  | ⟨0, _⟩ => exact Fin.ext (by show 0 * 128 + 1 * r.val = r.val; omega)
  | ⟨1, _⟩ => rfl

/-! ## The latents and their norms -/

/-- The reference's latents of the program's arguments. -/
def lat : FVec Ideal Cert.Reference4Ideal.S4x8192x416 .f32 := Cert.Reference4Ideal.Proj.latents (m ((c : Thread nD τ).loc main_arg0)) (m ((c : Thread nD τ).loc main_arg3))

theorem lat_apply (b : Fin 4) (i : Fin 8192) (r : Fin 416) : (lat m c (ix3 b i r) : EReal)
    = ∑ j : Fin 1024, HMul.hMul (α := EReal) (β := EReal) ((m ((c : Thread nD τ).loc main_arg0) : Vec Ideal S4x8192x1024 .f32) (ix3 b i j)) ((m ((c : Thread nD τ).loc main_arg3) : Vec Ideal S1024x416 .f32) (ix2 j r)) :=
  Cert.Reference4Ideal.Proj.latents_apply _ _ b i r

theorem latents_eq (r : Fin 384) (i : Fin 512) :
    (k0_pay4 (iblk m c 0 t) (iblk m c 5 t) (ix2 r i) : EReal) = lat m c (ix3 (bat t) (pos t i) ⟨r.val, by omega⟩) := by
  rw [latents_apply, lat_apply]
  refine Finset.sum_congr rfl fun j _ => ?_
  rw [iblk0, iblk5, V_lat]
  exact mul_comm (_ : EReal) _

/-- The reference's query latents after their norm, -/
def latQ : FVec Ideal Cert.Reference4Ideal.S4x8192x256 .f32 := Cert.Reference4Ideal.Proj.normedQ (Cert.Reference4Ideal.Proj.cutQ (lat m c)) (m ((c : Thread nD τ).loc main_arg4))

/-- and its key and value latents. -/
def latK : FVec Ideal Cert.Reference4Ideal.S4x8192x128 .f32 := Cert.Reference4Ideal.Proj.normedK (Cert.Reference4Ideal.Proj.cutK (lat m c)) (m ((c : Thread nD τ).loc main_arg6))

theorem latQ_apply (b : Fin 4) (i : Fin 8192) (k : Fin 256) : (latQ m c (ix3 b i k) : EReal)
    = rms (Ideal.ofBits .f32 0x43800000#32) (fun k : Fin 256 => (Cert.Reference4Ideal.Proj.cutQ (lat m c) (ix3 b i k) : EReal)) ((m ((c : Thread nD τ).loc main_arg4) : Vec Ideal S256 .f32) (ix1 k)) k :=
  Cert.Reference4Ideal.Proj.normedQ_apply _ _ b i k

theorem latK_apply (b : Fin 4) (i : Fin 8192) (k : Fin 128) : (latK m c (ix3 b i k) : EReal)
    = rms (Ideal.ofBits .f32 0x43000000#32) (fun k : Fin 128 => (Cert.Reference4Ideal.Proj.cutK (lat m c) (ix3 b i k) : EReal)) ((m ((c : Thread nD τ).loc main_arg6) : Vec Ideal S128 .f32) (ix1 k)) k :=
  Cert.Reference4Ideal.Proj.normedK_apply _ _ b i k

theorem latQ_eq (k : Fin 256) (i : Fin 512) :
    (normedQ (cutQ (k0_pay4 (iblk m c 0 t) (iblk m c 5 t))) (iblk m c 10 t) (ix2 k i) : EReal) = latQ m c (ix3 (bat t) (pos t i) k) := by
  rw [normedQ_apply, latQ_apply, iblk10, V_qnorm]
  simp only [cutQ_apply, Cert.Reference4Ideal.Proj.cutQ_apply, latents_eq]

theorem latK_eq (k : Fin 128) (i : Fin 512) : (latentsAt m c t (ix2 k i) : EReal) = latK m c (ix3 (bat t) (pos t i) k) := by
  unfold latentsAt
  rw [pay5_eq, normedK_apply, latK_apply, iblk11, V_kvnorm]
  simp only [cutK_apply, Cert.Reference4Ideal.Proj.cutK_apply, latents_eq]

/-! ## The queries -/

/-- The reference's queries before their rotation. -/
def headsOf : FVec Ideal S4x8192x16x96 .f32 := Cert.Reference4Ideal.Proj.heads (latQ m c) (m ((c : Thread nD τ).loc main_arg5))

theorem headsOf_apply (b : Fin 4) (i : Fin 8192) (h : Fin 16) (e : Fin 96) : (headsOf m c (ix4 b i h e) : EReal)
    = ∑ k : Fin 256, (latQ m c (ix3 b i k) : EReal) * (m ((c : Thread nD τ).loc main_arg5) : Vec Ideal S256x1536 .f32) (ix2 k ⟨h.val * 96 + e.val, by omega⟩) :=
  Cert.Reference4Ideal.Proj.heads_apply _ _ b i h e

/-- A row of the point's queries is the head's entry whose weights it has. -/
theorem queriesAt_eq (r : Fin 1536) (i : Fin 512) (h : Fin 16) (e : Fin 96)
    (hw : ∀ k : Fin 256, (V m c main_v36 : Vec Ideal S1536x256 .bf16) (ix2 r k) = ((m ((c : Thread nD τ).loc main_arg5) : Vec Ideal S256x1536 .f32) (ix2 k ⟨h.val * 96 + e.val, by omega⟩) : EReal)) :
    (queriesAt m c t (ix2 r i) : EReal) = headsOf m c (ix4 (bat t) (pos t i) h e) := by
  unfold queriesAt
  rw [pay6_eq, heads_apply, headsOf_apply]
  refine Finset.sum_congr rfl fun k _ => ?_
  rw [iblk7, hw, latQ_eq]
  exact mul_comm (_ : EReal) _

/-- The reference's queries. -/
def wantQ : FVec Ideal S4x8192x16x96 .f32 := Cert.Reference4Ideal.Proj.queriesOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem wantQ_eq : wantQ m c = Cert.Reference4Ideal.Proj.rotated (headsOf m c) (m ((c : Thread nD τ).loc main_arg1)) (m ((c : Thread nD τ).loc main_arg2)) := rfl

variable (h : Fin 16) (i : Fin 512)

theorem queriesAt_plain (e : Fin 64) : (queriesAt m c t (ix2 ⟨h.val * 64 + e.val, by omega⟩ i) : EReal) = headsOf m c (ix4 (bat t) (pos t i) h ⟨e.val, by omega⟩) :=
  queriesAt_eq m c t _ i h _ fun k => V_plain m c h e k

theorem queriesAt_first (f : Fin 16) : (queriesAt m c t (ix2 ⟨1024 + (h.val * 16 + f.val), by omega⟩ i) : EReal) = headsOf m c (ix4 (bat t) (pos t i) h ⟨64 + f.val, by omega⟩) :=
  queriesAt_eq m c t _ i h _ fun k => V_first m c h f k

theorem queriesAt_second (f : Fin 16) : (queriesAt m c t (ix2 ⟨1280 + (h.val * 16 + f.val), by omega⟩ i) : EReal) = headsOf m c (ix4 (bat t) (pos t i) h ⟨64 + (16 + f.val), by omega⟩) :=
  queriesAt_eq m c t _ i h _ fun k =>
    (congrArg (fun r => (V m c main_v36 : Vec Ideal S1536x256 .bf16) (ix2 r k)) (Fin.ext (by show 1280 + (h.val * 16 + f.val) = 1024 + (256 + (h.val * 16 + f.val)); omega))).trans
      ((V_second m c h f k).trans (congrArg (fun r => ((m ((c : Thread nD τ).loc main_arg5) : Vec Ideal S256x1536 .f32) (ix2 k r) : EReal)) (Fin.ext (by
        show h.val * 96 + (80 + f.val) = h.val * 96 + (64 + (16 + f.val)); omega))))

theorem plain_eq (e : Fin 64) : (((outsAt0 m c t).1 : Vec Ideal S1x16x128x512 .bf16) (ix4 0 h ⟨e.val, by omega⟩ i) : EReal)
    = wantQ m c (ix4 (bat t) (pos t i) h ⟨e.val, by omega⟩) := by
  rw [plain_at, pay12_apply, queriesAt_plain]
  rw [wantQ_eq, Cert.Reference4Ideal.Proj.rotated_plain]

theorem first_eq (f : Fin 16) : (((outsAt0 m c t).1 : Vec Ideal S1x16x128x512 .bf16) (ix4 0 h ⟨64 + f.val, by omega⟩ i) : EReal)
    = wantQ m c (ix4 (bat t) (pos t i) h ⟨64 + f.val, by omega⟩) := by
  rw [first_at, pay13_apply, queriesAt_first, queriesAt_second, iblk1, iblk2]
  rw [wantQ_eq, Cert.Reference4Ideal.Proj.rotated_first]
  exact sub_scale _ _ _ _

theorem second_eq (f : Fin 16) : (((outsAt0 m c t).1 : Vec Ideal S1x16x128x512 .bf16) (ix4 0 h ⟨64 + (16 + f.val), by omega⟩ i) : EReal)
    = wantQ m c (ix4 (bat t) (pos t i) h ⟨64 + (16 + f.val), by omega⟩) := by
  rw [second_at, pay14_apply, queriesAt_first, queriesAt_second, iblk1, iblk2]
  rw [wantQ_eq, Cert.Reference4Ideal.Proj.rotated_second]
  exact add_scale _ _ _ _

theorem queries_eq (e : Fin 128) : (((outsAt0 m c t).1 : Vec Ideal S1x16x128x512 .bf16) (ix4 0 h e i) : EReal)
    = if he : e.val < 96 then wantQ m c (ix4 (bat t) (pos t i) h ⟨e.val, he⟩) else Ideal.ofBits .bf16 0x0000#16 := by
  by_cases h0 : e.val < 64
  · rw [dif_pos (by omega)]
    exact plain_eq m c t h i ⟨e.val, h0⟩
  by_cases h1 : e.val < 80
  · rw [dif_pos (by omega)]
    have e1 : 64 + (e.val - 64) = e.val := by omega
    have q := first_eq m c t h i ⟨e.val - 64, by omega⟩
    simp only [e1] at q
    exact q
  by_cases h2 : e.val < 96
  · rw [dif_pos h2]
    have e1 : 64 + (16 + (e.val - 80)) = e.val := by omega
    have q := second_eq m c t h i ⟨e.val - 80, by omega⟩
    simp only [e1] at q
    exact q
  · rw [dif_neg h2]
    have e1 : 96 + (e.val - 96) = e.val := by omega
    have q := padding_at m c t h i ⟨e.val - 96, by omega⟩
    simp only [e1] at q
    exact q

/-! ## The values -/

/-- The reference's values. -/
def wantV : FVec Ideal S4x8192x16x64 .f32 := Cert.Reference4Ideal.Proj.valuesOf (m ((c : Thread nD τ).loc main_arg0)) (m ((c : Thread nD τ).loc main_arg3))
  (m ((c : Thread nD τ).loc main_arg6)) (m ((c : Thread nD τ).loc main_arg7))

theorem wantV_apply (b : Fin 4) (i : Fin 8192) (h : Fin 16) (e : Fin 64) : (wantV m c (ix4 b i h e) : EReal)
    = ∑ k : Fin 128, (latK m c (ix3 b i k) : EReal) * (m ((c : Thread nD τ).loc main_arg7) : Vec Ideal S128x2048 .f32) (ix2 k ⟨h.val * 128 + (64 + e.val), by omega⟩) :=
  Cert.Reference4Ideal.Proj.values_apply b i h _ _ e

theorem value_eq (e : Fin 64) : (((outsAt0 m c t).2.2 : Vec Ideal S1x16x80x512 .bf16) (ix4 0 h ⟨e.val, by omega⟩ i) : EReal)
    = wantV m c (ix4 (bat t) (pos t i) h e) := by
  rw [values_at, pay17_apply, wantV_apply]
  refine Finset.sum_congr rfl fun k _ => ?_
  rw [iblk8, V_values, latK_eq]
  exact mul_comm (_ : EReal) _

theorem values_eq (e : Fin 80) : (((outsAt0 m c t).2.2 : Vec Ideal S1x16x80x512 .bf16) (ix4 0 h e i) : EReal)
    = if he : e.val < 64 then wantV m c (ix4 (bat t) (pos t i) h ⟨e.val, he⟩) else Ideal.ofBits .bf16 0x3F80#16 := by
  by_cases h0 : e.val < 64
  · rw [dif_pos h0]
    exact value_eq m c t h i ⟨e.val, h0⟩
  · rw [dif_neg h0]
    have e1 : 64 + (e.val - 64) = e.val := by omega
    have q := ones_at m c t h i ⟨e.val - 64, by omega⟩
    simp only [e1] at q
    exact q

end Cert.Kernel4Ideal.Proj

end
-- ==== Proof.ProjHost.lean ====
module

public import proofs.«01_k».proof.Proof.ProjPoint
public import Idealize.ShloMosaic.Lib.StableHlo.ReadAt
public import Idealize.ShloMosaic.Lib.Claim
public import Idealize.ShloMosaic.Lib.Pointwise
import Idealize.ShloMosaic.Lib.Pipeline.ValueKit

@[expose] public section

noncomputable section

/-! The results of the latent projections' program are the reference's. -/

namespace Cert.Kernel4Ideal.Proj

open Cert.Kernel4Ideal Cert.Kernel4Ideal.Gen Cert.Proj
open Idealize.ShloMosaic Idealize.ShloMosaic.TcCoe

variable (m : (ℓ : Loc nD τ sig) → Buf (Elt Ideal) ℓ) (c : Dev nD) (t : Fin cfg0.N)

/-! ## The queries -/

/-- The block of queries a point leaves, -/
def outQ : Vec Ideal S1x16x128x512 .bf16 := (outsAt0 m c t).1

/-- and the array they should make. -/
def allQ : Vec Ideal S4x16x128x8192 .bf16 := fun y =>
  if he : (y 2).val < 96 then wantQ m c (ix4 ⟨(y 0).val, (y 0).isLt⟩ ⟨(y 3).val, (y 3).isLt⟩ ⟨(y 1).val, (y 1).isLt⟩ ⟨(y 2).val, he⟩) else Ideal.ofBits .bf16 0x0000#16

theorem outQ_eq (y : S1x16x128x512.Idx) : (outQ m c t y : EReal)
    = allQ m c (ix4 (bat t) ⟨(y 1).val, (y 1).isLt⟩ ⟨(y 2).val, (y 2).isLt⟩ (pos t ⟨(y 3).val, (y 3).isLt⟩)) := by
  have hy : y = ix4 0 ⟨(y 1).val, (y 1).isLt⟩ ⟨(y 2).val, (y 2).isLt⟩ ⟨(y 3).val, (y 3).isLt⟩ := by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl
  exact (congrArg (outQ m c t) hy).trans (queries_eq m c t _ _ _)

/-- The array the launch leaves. -/
def launchedQ : Buf (Elt Ideal) ((c : Thread nD τ).loc (Pipeline.arrRef spec0 13)) := (dats m 0 c).arrAt 13 cfg0.N

theorem launchedQ_eq : launchedQ m c = allQ m c := by
  unfold launchedQ
  refine (dats m 0 c).arrAt_eq_of_covers 13 (allQ m c) (by decide +kernel) fun t _ y => ?_
  have h0 : (y 0).val < 1 := (y 0).isLt
  have ht := transform13 (grid0.coords t)
  have e0 : cc0_transform_13 (grid0.coords t) 0 = (pt t).val / 16 := ht 0
  have e1 : cc0_transform_13 (grid0.coords t) 1 = 0 := ht 1
  have e2 : cc0_transform_13 (grid0.coords t) 2 = 0 := ht 2
  have e3 : cc0_transform_13 (grid0.coords t) 3 = (pt t).val % 16 := ht 3
  refine Eq.trans ?_ ((outQ_eq m c t y).trans (congrArg (allQ m c) (funext fun a => ?_)))
  · rw [show (dats m 0 c).after 13 t = outQ m c t from after0_13 m c t]
    refine (cast_eq _ _).trans (congrArg (outQ m c t) (funext fun a => Fin.ext ?_))
    rfl
  match a with
  | ⟨0, _⟩ => exact Fin.ext (by show (pt t).val / 16 = cc0_transform_13 (grid0.coords t) 0 * 1 + 1 * (y 0).val; rw [e0]; omega)
  | ⟨1, _⟩ => exact Fin.ext (by show (y 1).val = cc0_transform_13 (grid0.coords t) 1 * 16 + 1 * (y 1).val; rw [e1]; omega)
  | ⟨2, _⟩ => exact Fin.ext (by show (y 2).val = cc0_transform_13 (grid0.coords t) 2 * 128 + 1 * (y 2).val; rw [e2]; omega)
  | ⟨3, _⟩ => exact Fin.ext (by show 512 * ((pt t).val % 16) + (y 3).val = cc0_transform_13 (grid0.coords t) 3 * 512 + 1 * (y 3).val; rw [e3]; omega)

/-- The program's queries: the launch's array with its axes exchanged. -/
theorem resultQ_apply (b : Fin 4) (i : Fin 8192) (h : Fin 16) (e : Fin 96) :
    ((Pipeline.afterTail₀ cfgs (dats m) 0 (V0 m) [hostOps1] c main_v46 : Vec Ideal S4x8192x16x96 .f32) (ix4 b i h e) : EReal)
      = (launchedQ m c : Vec Ideal S4x16x128x8192 .bf16) (ix4 b h ⟨e.val, by omega⟩ i) := by
  unfold Pipeline.afterTail₀
  rw [flat]
  repeat after_reads_at
  exact congrFun (Pipeline.withArrays_arr spec0 (by decide) c (V0 m c) (fun w => (dats m 0 c).arrAt w cfg0.N) 13) _

theorem resultQ_eq : (Pipeline.afterTail₀ cfgs (dats m) 0 (V0 m) [hostOps1] c main_v46 : Vec Ideal S4x8192x16x96 .f32) = wantQ m c := by
  funext x
  have hx : x = ix4 ⟨(x 0).val, (x 0).isLt⟩ ⟨(x 1).val, (x 1).isLt⟩ ⟨(x 2).val, (x 2).isLt⟩ ⟨(x 3).val, (x 3).isLt⟩ := by
    funext a
    match a with
    | ⟨0, _⟩ => rfl
    | ⟨1, _⟩ => rfl
    | ⟨2, _⟩ => rfl
    | ⟨3, _⟩ => rfl
  rw [hx]
  refine (resultQ_apply m c _ _ _ _).trans ((congrFun (launchedQ_eq m c) _).trans ?_)
  exact dif_pos (show (x 3).val < 96 from (x 3).isLt)

/-! ## The values -/

/-- The block of values a point leaves, -/
def outV : Vec Ideal S1x16x80x512 .bf16 := (outsAt0 m c t).2.2

/-- and the array they should make. -/
def allV : Vec Ideal S4x16x80x8192 .bf16 := fun y =>
  if he : (y 2).val < 64 then wantV m c (ix4 ⟨(y 0).val, (y 0).isLt⟩ ⟨(y 3).val, (y 3).isLt⟩ ⟨(y 1).val, (y 1).isLt⟩ ⟨(y 2).val, he⟩) else Ideal.ofBits .bf16 0x3F80#16

theorem outV_eq (y : S1x16x80x512.Idx) : (outV m c t y : EReal)
    = allV m c (ix4 (bat t) ⟨(y 1).val, (y 1).isLt⟩ ⟨(y 2).val, (y 2).isLt⟩ (pos t ⟨(y 3).val, (y 3).isLt⟩)) := by
  have hy : y = ix4 0 ⟨(y 1).val, (y 1).isLt⟩ ⟨(y 2).val, (y 2).isLt⟩ ⟨(y 3).val, (y 3).isLt⟩ := by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl
  exact (congrArg (outV m c t) hy).trans (values_eq m c t _ _ _)

/-- The array the launch leaves. -/
def launchedV : Buf (Elt Ideal) ((c : Thread nD τ).loc (Pipeline.arrRef spec0 15)) := (dats m 0 c).arrAt 15 cfg0.N

theorem launchedV_eq : launchedV m c = allV m c := by
  unfold launchedV
  refine (dats m 0 c).arrAt_eq_of_covers 15 (allV m c) (by decide +kernel) fun t _ y => ?_
  have h0 : (y 0).val < 1 := (y 0).isLt
  have ht := transform15 (grid0.coords t)
  have e0 : cc0_transform_15 (grid0.coords t) 0 = (pt t).val / 16 := ht 0
  have e1 : cc0_transform_15 (grid0.coords t) 1 = 0 := ht 1
  have e2 : cc0_transform_15 (grid0.coords t) 2 = 0 := ht 2
  have e3 : cc0_transform_15 (grid0.coords t) 3 = (pt t).val % 16 := ht 3
  refine Eq.trans ?_ ((outV_eq m c t y).trans (congrArg (allV m c) (funext fun a => ?_)))
  · rw [show (dats m 0 c).after 15 t = outV m c t from after0_15 m c t]
    refine (cast_eq _ _).trans (congrArg (outV m c t) (funext fun a => Fin.ext ?_))
    rfl
  match a with
  | ⟨0, _⟩ => exact Fin.ext (by show (pt t).val / 16 = cc0_transform_15 (grid0.coords t) 0 * 1 + 1 * (y 0).val; rw [e0]; omega)
  | ⟨1, _⟩ => exact Fin.ext (by show (y 1).val = cc0_transform_15 (grid0.coords t) 1 * 16 + 1 * (y 1).val; rw [e1]; omega)
  | ⟨2, _⟩ => exact Fin.ext (by show (y 2).val = cc0_transform_15 (grid0.coords t) 2 * 80 + 1 * (y 2).val; rw [e2]; omega)
  | ⟨3, _⟩ => exact Fin.ext (by show 512 * ((pt t).val % 16) + (y 3).val = cc0_transform_15 (grid0.coords t) 3 * 512 + 1 * (y 3).val; rw [e3]; omega)

/-- The program's values: the launch's array with its axes exchanged. -/
theorem resultV_apply (b : Fin 4) (i : Fin 8192) (h : Fin 16) (e : Fin 64) :
    ((Pipeline.afterTail₀ cfgs (dats m) 0 (V0 m) [hostOps1] c main_v49 : Vec Ideal S4x8192x16x64 .f32) (ix4 b i h e) : EReal)
      = (launchedV m c : Vec Ideal S4x16x80x8192 .bf16) (ix4 b h ⟨e.val, by omega⟩ i) := by
  unfold Pipeline.afterTail₀
  rw [flat]
  repeat after_reads_at
  exact congrFun (Pipeline.withArrays_arr spec0 (by decide) c (V0 m c) (fun w => (dats m 0 c).arrAt w cfg0.N) 15) _

theorem resultV_eq : (Pipeline.afterTail₀ cfgs (dats m) 0 (V0 m) [hostOps1] c main_v49 : Vec Ideal S4x8192x16x64 .f32) = wantV m c := by
  funext x
  have hx : x = ix4 ⟨(x 0).val, (x 0).isLt⟩ ⟨(x 1).val, (x 1).isLt⟩ ⟨(x 2).val, (x 2).isLt⟩ ⟨(x 3).val, (x 3).isLt⟩ := by
    funext a
    match a with
    | ⟨0, _⟩ => rfl
    | ⟨1, _⟩ => rfl
    | ⟨2, _⟩ => rfl
    | ⟨3, _⟩ => rfl
  rw [hx]
  refine (resultV_apply m c _ _ _ _).trans ((congrFun (launchedV_eq m c) _).trans ?_)
  exact dif_pos (show (x 3).val < 64 from (x 3).isLt)

/-- The arguments and the results after the run. -/
theorem run_values (ρ : Dev nD → PrngReg) : θ_run defs (onTc (τ := τ) (main (F := Ideal))) ⟨m, fun _ => 0, ρ⟩ (fun r => ∀ c : Dev nD,
      r.2.mem ((c.tc : Thread nD τ).loc main_v46) = wantQ m c
      ∧ r.2.mem ((c.tc : Thread nD τ).loc main_v49) = wantV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v46 (Pipeline.mem_restRefs_of main_v46 (by decide) (by decide))).trans (resultQ_eq m c),
      ((h c).2 main_v49 (Pipeline.mem_restRefs_of main_v49 (by decide) (by decide))).trans (resultV_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.Kernel4Ideal.Proj

end
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.DispatchValue
public import proofs.«01_k».proof.Proof.AttnValue
public import proofs.«01_k».proof.Proof.OutprojHost
public import proofs.«01_k».proof.Proof.Gen.Kernel3Ideal.Frame
public import proofs.«01_k».proof.Proof.Gen.Kernel3Ideal.Skeleton
public import proofs.«01_k».proof.Proof.Gen.Kernel3.Frame
public import proofs.«01_k».proof.Proof.Gen.Kernel4Ideal.Frame
public import proofs.«01_k».proof.Proof.Gen.Kernel4Ideal.Skeleton
public import proofs.«01_k».proof.Proof.Gen.Kernel4.Frame
public import proofs.«01_k».proof.Proof.Gen.Reference4Ideal.Run
public import proofs.«01_k».proof.Proof.ProjHost
public import proofs.«01_k».proof.Proof.Gen.Reference3Ideal.Run
public import proofs.«01_k».proof.Proof.Gen.Kernel2Ideal.Frame
public import proofs.«01_k».proof.Proof.Gen.Kernel2.Frame
public import proofs.«01_k».proof.Proof.Gen.Reference2Ideal.Run
public import Idealize.ShloMosaic.Adequacy
public import Idealize.ShloMosaic.Init

@[expose] public section

noncomputable section

/-! The claims about the dispatch call, the attention call, the attention's output projection, and the queries and values of the latent projections. -/

namespace Cert.Proof

open Idealize.ShloMosaic Idealize.ShloMosaic.TcCoe Idealize.SL.Sem
open Cert.KernelIdeal.Dispatch

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Pre_slots_distinct.Facts := Cert.Pre_slots_distinct.facts
instance : Cert.Pre_scores_finite.Facts := Cert.Pre_scores_finite.facts

/-! ## The dispatch -/

/-- A table that passes the precondition is one of distinct rows. -/
theorem distinct_of_pre {F : FTy → Type} [FloatOps F] (m : (ℓ : Loc Cert.KernelIdeal.nD Cert.KernelIdeal.τ Cert.KernelIdeal.sig) → Buf (Elt F) ℓ)
    (h : ∀ c : Dev Cert.KernelIdeal.nD,
      (Cert.Pre_slots_distinct.fn (F := F) (m ((c.tc : Thread _ Cert.KernelIdeal.τ).loc Cert.KernelIdeal.main_arg0)) (m ((c.tc : Thread _ Cert.KernelIdeal.τ).loc Cert.KernelIdeal.main_arg1))).1 = (fun _ => 1#1)
      ∧ (Cert.Pre_slots_distinct.fn (F := F) (m ((c.tc : Thread _ Cert.KernelIdeal.τ).loc Cert.KernelIdeal.main_arg0)) (m ((c.tc : Thread _ Cert.KernelIdeal.τ).loc Cert.KernelIdeal.main_arg1))).2 = (fun _ => 1#1)) :
    Distinct m where
  range c := (table_of_pre _ _ (h c).1 (h c).2).1
  inj c := (table_of_pre _ _ (h c).1 (h c).2).2

/-- The two prints of the kernel have the same body table. -/
theorem bodies_same {F : FTy → Type} [FloatOps F] : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀))
    (funext fun l => funext fun a => ?_)
  match l, a with
  | 0, (t, s) =>
    show Cert.Kernel.cc0_moe_dispatch _ _ _ _ _ _ _ _ _ _ = Cert.KernelIdeal.cc0_moe_dispatch _ _ _ _ _ _ _ _ _ _
    rfl
  | ⟨_ + 1, h⟩, _ => exact absurd h (Nat.not_lt.2 (Nat.le_add_left _ _))

/-- They are the same program. -/
theorem defs_same {F : FTy → Type} [FloatOps F] : Cert.Kernel.defs (F := F) = Cert.KernelIdeal.defs (F := F) :=
  congrArg (Pipeline.defs Cert.Kernel.pcfgs) bodies_same

theorem frame_kernel : Cert.quiescent_Kernel := fun m ρ hp => by
  rw [defs_same]
  exact (θ_run (Cert.KernelIdeal.defs (F := Bits)) _ _).mono (fun _ h => ⟨fun c => ⟨(h.1 c).1, (h.1 c).2.1⟩, h.2⟩)
    (run_values (F := Bits) m ρ (distinct_of_pre m hp))

theorem frame_kernelIdeal : Cert.quiescent_KernelIdeal := fun m ρ hp =>
  (θ_run Cert.KernelIdeal.defs _ _).mono (fun _ h => ⟨fun c => ⟨(h.1 c).1, (h.1 c).2.1⟩, h.2⟩)
    (run_values (F := Ideal) m ρ (distinct_of_pre m hp))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_slots_distinct := fun m ρ _ =>
  frame_referenceIdeal m ρ trivial

theorem algebraic : Cert.algebraic_KernelIdeal_ReferenceIdeal := fun m ρ m' ρ' hp hag => by
  have hd : Distinct m := distinct_of_pre m hp
  refine ⟨fun c => after0 m c Cert.KernelIdeal.main_v0, ?_, ?_⟩
  · exact (θ_run Cert.KernelIdeal.defs _ _).mono (fun _ h c => ⟨(h.1 c).2.2, (h.1 c).1, (h.1 c).2.1⟩) (run_values (F := Ideal) m ρ hd)
  · refine (θ_run Cert.ReferenceIdeal.defs _ _).mono (fun r h c => ⟨(h c).1.trans ?_, (h c).2⟩) (Cert.ReferenceIdeal.Value.run (F := Ideal) m' ρ')
    rw [(hag c).1, (hag c).2]
    have e := reference_eq m hd c Cert.ReferenceIdeal.scatter_S81920x1024_S65536x1_S65536x1024_1_0_0_1 rfl rfl rfl rfl
      Cert.ReferenceIdeal.gather_S32768x1024_S65536x1_S65536x1024_1_0_n_n_0_1_11024 rfl rfl rfl rfl rfl
      Cert.ReferenceIdeal.Gen.facts.bcast_S_S65536 Cert.ReferenceIdeal.Gen.facts.bcast_S65536_S65536x1_0 _ _
      (flat_dest (m ((c.tc : Thread Cert.KernelIdeal.nD Cert.KernelIdeal.τ).loc Cert.KernelIdeal.main_arg0))
        Cert.ReferenceIdeal.Gen.facts.transposes_S2x32768_S32768x2_1_0 Cert.ReferenceIdeal.Gen.facts.shapeCasts_S32768x2_S65536)
      (flat_tok Cert.ReferenceIdeal.Gen.facts.bcast_S32768_S32768x2_0 Cert.ReferenceIdeal.Gen.facts.shapeCasts_S32768x2_S65536)
    rw [V_main_v0] at e
    exact e

/-! ## The attention -/

/-- A named constant read as the number of its bits. -/
instance : Named Bits := ⟨fun _ _ {φ} b => Scalar.ofBits φ b⟩

/-- The two prints of the attention have the same body table, the named constants read as their bits. -/
theorem attn_bodies_same : Cert.Kernel2.defs₀ (F := Bits) = Cert.Kernel2Ideal.defs₀ (F := Bits) := by
  refine congrArg (Defs.onTc (nD := Cert.Kernel2.nD) (τ := Cert.Kernel2.τ) (sig := Cert.Kernel2.sig) (Val := Elt Bits) (Λ := Cert.Kernel2.Λ₀))
    (funext fun l => funext fun a => ?_)
  match l, a with
  | 0, (t, s) =>
    show Cert.Kernel2.cc0_mla_attention _ _ _ _ _ _ _ _ _ = Cert.Kernel2Ideal.cc0_mla_attention _ _ _ _ _ _ _ _ _
    rfl
  | ⟨_ + 1, h⟩, _ => exact absurd h (Nat.not_lt.2 (Nat.le_add_left _ _))

theorem attn_defs_same : Cert.Kernel2.defs (F := Bits) = Cert.Kernel2Ideal.defs (F := Bits) :=
  congrArg (Pipeline.defs Cert.Kernel2.pcfgs) attn_bodies_same

theorem frame_kernel2 : Cert.quiescent_Kernel2 := fun m ρ _ => by
  rw [attn_defs_same]
  exact (θ_run (Cert.Kernel2Ideal.defs (F := Bits)) _ _).mono (fun _ h => ⟨fun c => (h.1 c).1, h.2⟩)
    (Cert.Kernel2Ideal.Attn.run_values (F := Bits) m ρ)

theorem frame_kernel2Ideal : Cert.quiescent_Kernel2Ideal := fun m ρ _ =>
  (θ_run Cert.Kernel2Ideal.defs _ _).mono (fun _ h => ⟨fun c => (h.1 c).1, h.2⟩) (Cert.Kernel2Ideal.Attn.run_values (F := Ideal) m ρ)

theorem frame_kernel2Ideal_pre : Cert.quiescent_Kernel2Ideal_pre_scores_finite := fun m ρ _ => frame_kernel2Ideal m ρ trivial

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2Ideal_pre : Cert.quiescent_Reference2Ideal_pre_scores_finite := fun m ρ _ => frame_reference2Ideal m ρ trivial

theorem preserves_attn : Cert.preserves_Kernel2_Kernel2Ideal :=
  IdealRules.named_const.statement Cert.Kernel2Ideal.κ "mask" .f32 0xF149F2CA#32 ⊥ rfl

/-- Arguments that pass the precondition are finite. -/
theorem finite_of_pre (m : (ℓ : Loc Cert.Kernel2Ideal.nD Cert.Kernel2Ideal.τ Cert.Kernel2Ideal.sig) → Buf (Elt Ideal) ℓ)
    (h : Cert.Pre_Kernel2Ideal_scores_finite m) : Cert.Kernel2Ideal.Attn.Finite m where
  q c := Cert.Kernel2Ideal.Attn.reals _ _ (fun _ => rfl) (h c).1
  qr c := Cert.Kernel2Ideal.Attn.reals _ _ (fun _ => rfl) (h c).2.1
  k c := Cert.Kernel2Ideal.Attn.reals _ _ (fun _ => rfl) (h c).2.2.1
  kr c := Cert.Kernel2Ideal.Attn.reals _ _ (fun _ => rfl) (h c).2.2.2

theorem algebraic_attn : Cert.algebraic_Kernel2Ideal_Reference2Ideal_pre_scores_finite := fun m ρ m' ρ' hp hag => by
  refine ⟨fun c => Cert.Kernel2Ideal.Attn.want m c, ?_, ?_⟩
  · exact (θ_run Cert.Kernel2Ideal.defs _ _).mono (fun _ h c => ⟨(h.1 c).2.trans (Cert.Kernel2Ideal.Attn.result_eq m (finite_of_pre m hp) c), (h.1 c).1⟩)
      (Cert.Kernel2Ideal.Attn.run_values (F := Ideal) m ρ)
  · refine (θ_run Cert.Reference2Ideal.defs _ _).mono (fun r h c => ⟨(h c).1.trans ((Cert.Reference2Ideal.Attn.res_eq m' c).trans ?_), (h c).2⟩)
      (Cert.Reference2Ideal.Value.run (F := Ideal) m' ρ')
    rw [(hag c).1, (hag c).2.1, (hag c).2.2.1, (hag c).2.2.2.1, (hag c).2.2.2.2]
    rfl

/-! ## The output projection -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_outproj : Cert.algebraic_Kernel3Ideal_Reference3Ideal := fun m ρ m' ρ' _ hag => by
  refine ⟨fun c => Cert.Kernel3Ideal.Outproj.want m c, Cert.Kernel3Ideal.Outproj.run_values m ρ, ?_⟩
  refine (θ_run Cert.Reference3Ideal.defs _ _).mono (fun r h c => ⟨(h c).1.trans ?_, (h c).2⟩) (Cert.Reference3Ideal.Value.run (F := Ideal) m' ρ')
  rw [(hag c).1, (hag c).2.1, (hag c).2.2.1, (hag c).2.2.2.1, (hag c).2.2.2.2]
  rfl

/-! ## The queries and the values of the latent projections -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Proj.run_values m ρ)

theorem algebraic_proj : Cert.algebraic_Kernel4Ideal_Reference4Ideal := fun m ρ m' ρ' _ hag => by
  refine ⟨fun c => Cert.Kernel4Ideal.Proj.wantQ m c, fun c => Cert.Kernel4Ideal.Proj.wantV m c, Cert.Kernel4Ideal.Proj.run_values m ρ, ?_⟩
  refine (θ_run Cert.Reference4Ideal.defs _ _).mono (fun r h c => ⟨(h c).1.trans ?_, (h c).2.1.trans ?_, (h c).2.2⟩)
    (Cert.Reference4Ideal.Proj.run_values m' ρ')
  · rw [(hag c).1, (hag c).2.1, (hag c).2.2.1, (hag c).2.2.2.1, (hag c).2.2.2.2.1, (hag c).2.2.2.2.2.1]
    rfl
  · rw [(hag c).1, (hag c).2.2.2.1, (hag c).2.2.2.2.2.2.1, (hag c).2.2.2.2.2.2.2]
    rfl

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Pre_slots_distinct.facts, Cert.Pre_scores_finite.facts,
  frame_kernel, frame_kernelIdeal, frame_referenceIdeal, frame_referenceIdeal_pre, frame_kernel2, frame_kernel2Ideal, frame_kernel2Ideal_pre,
  frame_reference2Ideal, frame_reference2Ideal_pre, frame_kernel3, frame_kernel3Ideal, frame_reference3Ideal, frame_kernel4, frame_kernel4Ideal, frame_reference4Ideal,
  trivial, algebraic, preserves_attn, algebraic_attn, trivial, algebraic_outproj, trivial, algebraic_proj⟩

end Cert.Proof

end
